-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32768x1024 : Shape := ⟨2, ![32768, 1024]⟩
abbrev S_ : Shape := ⟨0, ![]⟩
abbrev S3x7x2 : Shape := ⟨3, ![3, 7, 2]⟩
abbrev S1x1x1 : Shape := ⟨3, ![1, 1, 1]⟩
abbrev S688x1024 : Shape := ⟨2, ![688, 1024]⟩
abbrev S680x1024 : Shape := ⟨2, ![680, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32768x1024, .f32⟩
  | _, _ => ⟨S4096x1024, .f32⟩

abbrev bufScoped : (cs : CoreSpace) → Fin (nBuf (.core cs)) → Bool
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4096_i32 : BitVec 32 := 4096#32
  let v25 : BitVec 32 := Scalar.muli v2 c4096_i32
  let c0_i32_17 : BitVec 32 := 0#32
  ![v25.toNat, 0]
def k0_off2 (d0 : Dev nD) (c0_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4096_i32_21 : BitVec 32 := 4096#32
  let v31 : BitVec 32 := Scalar.muli v2 c4096_i32_21
  let v32 : BitVec 32 := Scalar.addi v31 c0_i32_22
  let c0_i32_23 : BitVec 32 := 0#32
  let v33 : BitVec 32 := Scalar.addi v32 c0_i32_23
  let c0_i32_32 : BitVec 32 := 0#32
  ![v33.toNat, 0]
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v27 : BitVec 32 := Scalar.xori v5 c1_i32_18
  let c1_i32_19 : BitVec 32 := 1#32
  let v28 : BitVec 32 := Scalar.shrsi v27 c1_i32_19
  let c1_i32_20 : BitVec 32 := 1#32
  let v29 : BitVec 32 := Scalar.andi v28 c1_i32_20
  let v30 : BitVec 32 := Scalar.xori v27 v29
  let c1_i32_30 : BitVec 32 := 1#32
  let v34 : BitVec 32 := Scalar.muli v30 c1_i32_30
  let v35 : BitVec 32 := Scalar.addi c0_i32_31 v34
  v35.toNat
def k0_off3 (d0 : Dev nD) (c0_i32_36 : BitVec 32) (c688_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4096_i32_35 : BitVec 32 := 4096#32
  let v42 : BitVec 32 := Scalar.muli v2 c4096_i32_35
  let v43 : BitVec 32 := Scalar.addi v42 c0_i32_36
  let v44 : BitVec 32 := Scalar.addi v43 c688_i32
  let c0_i32_45 : BitVec 32 := 0#32
  ![v44.toNat, 0]
def k0_off3_at (r : Fin 4) : BitVec 32 × BitVec 32 :=
  if r.val < 2 then
    if r.val < 1 then
      (0#32, 688#32)
    else
      (1368#32, 688#32)
  else
    if r.val < 3 then
      (2736#32, 0#32)
    else
      (2736#32, 680#32)
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v27 : BitVec 32 := Scalar.xori v5 c1_i32_18
  let c1_i32_19 : BitVec 32 := 1#32
  let v28 : BitVec 32 := Scalar.shrsi v27 c1_i32_19
  let c1_i32_20 : BitVec 32 := 1#32
  let v29 : BitVec 32 := Scalar.andi v28 c1_i32_20
  let v30 : BitVec 32 := Scalar.xori v27 v29
  let c1_i32_43 : BitVec 32 := 1#32
  let v45 : BitVec 32 := Scalar.muli v30 c1_i32_43
  let v46 : BitVec 32 := Scalar.addi c0_i32_44 v45
  v46.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_48 : BitVec 32 := 2#32
  let v53 : BitVec 32 := Scalar.xori v5 c2_i32_48
  let c1_i32_49 : BitVec 32 := 1#32
  let v54 : BitVec 32 := Scalar.shrsi v53 c1_i32_49
  let c1_i32_50 : BitVec 32 := 1#32
  let v55 : BitVec 32 := Scalar.andi v54 c1_i32_50
  let v56 : BitVec 32 := Scalar.xori v53 v55
  let c1_i32_59 : BitVec 32 := 1#32
  let v60 : BitVec 32 := Scalar.muli v56 c1_i32_59
  let v61 : BitVec 32 := Scalar.addi c0_i32_60 v60
  v61.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_48 : BitVec 32 := 2#32
  let v53 : BitVec 32 := Scalar.xori v5 c2_i32_48
  let c1_i32_49 : BitVec 32 := 1#32
  let v54 : BitVec 32 := Scalar.shrsi v53 c1_i32_49
  let c1_i32_50 : BitVec 32 := 1#32
  let v55 : BitVec 32 := Scalar.andi v54 c1_i32_50
  let v56 : BitVec 32 := Scalar.xori v53 v55
  let c1_i32_73 : BitVec 32 := 1#32
  let v71 : BitVec 32 := Scalar.muli v56 c1_i32_73
  let v72 : BitVec 32 := Scalar.addi c0_i32_74 v71
  v72.toNat
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_77 : BitVec 32 := 4#32
  let v79 : BitVec 32 := Scalar.xori v5 c4_i32_77
  let c1_i32_78 : BitVec 32 := 1#32
  let v80 : BitVec 32 := Scalar.shrsi v79 c1_i32_78
  let c1_i32_79 : BitVec 32 := 1#32
  let v81 : BitVec 32 := Scalar.andi v80 c1_i32_79
  let v82 : BitVec 32 := Scalar.xori v79 v81
  let c1_i32_88 : BitVec 32 := 1#32
  let v86 : BitVec 32 := Scalar.muli v82 c1_i32_88
  let v87 : BitVec 32 := Scalar.addi c0_i32_89 v86
  v87.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_77 : BitVec 32 := 4#32
  let v79 : BitVec 32 := Scalar.xori v5 c4_i32_77
  let c1_i32_78 : BitVec 32 := 1#32
  let v80 : BitVec 32 := Scalar.shrsi v79 c1_i32_78
  let c1_i32_79 : BitVec 32 := 1#32
  let v81 : BitVec 32 := Scalar.andi v80 c1_i32_79
  let v82 : BitVec 32 := Scalar.xori v79 v81
  let c1_i32_101 : BitVec 32 := 1#32
  let v97 : BitVec 32 := Scalar.muli v82 c1_i32_101
  let v98 : BitVec 32 := Scalar.addi c0_i32_102 v97
  v98.toNat
def k0_off4 (d0 : Dev nD) (c1_i32_105 : BitVec 32) (c0_i32_115 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v105 : BitVec 32 := Scalar.xori v5 c1_i32_105
  let c1_i32_106 : BitVec 32 := 1#32
  let v106 : BitVec 32 := Scalar.shrsi v105 c1_i32_106
  let c1_i32_107 : BitVec 32 := 1#32
  let v107 : BitVec 32 := Scalar.andi v106 c1_i32_107
  let v108 : BitVec 32 := Scalar.xori v105 v107
  let c4096_i32_114 : BitVec 32 := 4096#32
  let v116 : BitVec 32 := Scalar.muli v108 c4096_i32_114
  let v117 : BitVec 32 := Scalar.addi v116 c0_i32_115
  let c0_i32_116 : BitVec 32 := 0#32
  let v118 : BitVec 32 := Scalar.addi v117 c0_i32_116
  let c0_i32_125 : BitVec 32 := 0#32
  ![v118.toNat, 0]
def k0_dev10 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_108 : BitVec 32 := 2#32
  let v109 : BitVec 32 := Scalar.xori v5 c2_i32_108
  let c1_i32_109 : BitVec 32 := 1#32
  let v110 : BitVec 32 := Scalar.shrsi v109 c1_i32_109
  let c1_i32_110 : BitVec 32 := 1#32
  let v111 : BitVec 32 := Scalar.andi v110 c1_i32_110
  let v112 : BitVec 32 := Scalar.xori v109 v111
  let c1_i32_139 : BitVec 32 := 1#32
  let v131 : BitVec 32 := Scalar.muli v112 c1_i32_139
  let v132 : BitVec 32 := Scalar.addi c0_i32_140 v131
  v132.toNat
def k0_off5 (d0 : Dev nD) (c1_i32_105 : BitVec 32) (c0_i32_147 : BitVec 32) (c688_i32_148 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v105 : BitVec 32 := Scalar.xori v5 c1_i32_105
  let c1_i32_106 : BitVec 32 := 1#32
  let v106 : BitVec 32 := Scalar.shrsi v105 c1_i32_106
  let c1_i32_107 : BitVec 32 := 1#32
  let v107 : BitVec 32 := Scalar.andi v106 c1_i32_107
  let v108 : BitVec 32 := Scalar.xori v105 v107
  let c4096_i32_146 : BitVec 32 := 4096#32
  let v142 : BitVec 32 := Scalar.muli v108 c4096_i32_146
  let v143 : BitVec 32 := Scalar.addi v142 c0_i32_147
  let v144 : BitVec 32 := Scalar.addi v143 c688_i32_148
  let c0_i32_157 : BitVec 32 := 0#32
  ![v144.toNat, 0]
def k0_off5_at (r : Fin 28) : BitVec 32 × BitVec 32 × BitVec 32 :=
  if r.val < 14 then
    if r.val < 7 then
      if r.val < 3 then
        if r.val < 1 then
          (1#32, 0#32, 688#32)
        else
          if r.val < 2 then
            (2#32, 1368#32, 688#32)
          else
            (4#32, 2736#32, 0#32)
      else
        if r.val < 5 then
          if r.val < 4 then
            (4#32, 2736#32, 680#32)
          else
            (3#32, 0#32, 688#32)
        else
          if r.val < 6 then
            (6#32, 1368#32, 688#32)
          else
            (5#32, 2736#32, 0#32)
    else
      if r.val < 10 then
        if r.val < 8 then
          (5#32, 2736#32, 680#32)
        else
          if r.val < 9 then
            (2#32, 0#32, 688#32)
          else
            (4#32, 1368#32, 688#32)
      else
        if r.val < 12 then
          if r.val < 11 then
            (1#32, 2736#32, 0#32)
          else
            (1#32, 2736#32, 680#32)
        else
          if r.val < 13 then
            (6#32, 0#32, 688#32)
          else
            (5#32, 1368#32, 688#32)
  else
    if r.val < 21 then
      if r.val < 17 then
        if r.val < 15 then
          (3#32, 2736#32, 0#32)
        else
          if r.val < 16 then
            (3#32, 2736#32, 680#32)
          else
            (7#32, 0#32, 688#32)
      else
        if r.val < 19 then
          if r.val < 18 then
            (7#32, 1368#32, 688#32)
          else
            (7#32, 2736#32, 0#32)
        else
          if r.val < 20 then
            (7#32, 2736#32, 680#32)
          else
            (5#32, 0#32, 688#32)
    else
      if r.val < 24 then
        if r.val < 22 then
          (3#32, 1368#32, 688#32)
        else
          if r.val < 23 then
            (6#32, 2736#32, 0#32)
          else
            (6#32, 2736#32, 680#32)
      else
        if r.val < 26 then
          if r.val < 25 then
            (4#32, 0#32, 688#32)
          else
            (1#32, 1368#32, 688#32)
        else
          if r.val < 27 then
            (2#32, 2736#32, 0#32)
          else
            (2#32, 2736#32, 680#32)
def k0_dev11 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_108 : BitVec 32 := 2#32
  let v109 : BitVec 32 := Scalar.xori v5 c2_i32_108
  let c1_i32_109 : BitVec 32 := 1#32
  let v110 : BitVec 32 := Scalar.shrsi v109 c1_i32_109
  let c1_i32_110 : BitVec 32 := 1#32
  let v111 : BitVec 32 := Scalar.andi v110 c1_i32_110
  let v112 : BitVec 32 := Scalar.xori v109 v111
  let c1_i32_171 : BitVec 32 := 1#32
  let v157 : BitVec 32 := Scalar.muli v112 c1_i32_171
  let v158 : BitVec 32 := Scalar.addi c0_i32_172 v157
  v158.toNat
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_178 : BitVec 32 := 4#32
  let v169 : BitVec 32 := Scalar.xori v5 c4_i32_178
  let c1_i32_179 : BitVec 32 := 1#32
  let v170 : BitVec 32 := Scalar.shrsi v169 c1_i32_179
  let c1_i32_180 : BitVec 32 := 1#32
  let v171 : BitVec 32 := Scalar.andi v170 c1_i32_180
  let v172 : BitVec 32 := Scalar.xori v169 v171
  let c1_i32_209 : BitVec 32 := 1#32
  let v191 : BitVec 32 := Scalar.muli v172 c1_i32_209
  let v192 : BitVec 32 := Scalar.addi c0_i32_210 v191
  v192.toNat
def k0_dev13 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_178 : BitVec 32 := 4#32
  let v169 : BitVec 32 := Scalar.xori v5 c4_i32_178
  let c1_i32_179 : BitVec 32 := 1#32
  let v170 : BitVec 32 := Scalar.shrsi v169 c1_i32_179
  let c1_i32_180 : BitVec 32 := 1#32
  let v171 : BitVec 32 := Scalar.andi v170 c1_i32_180
  let v172 : BitVec 32 := Scalar.xori v169 v171
  let c1_i32_241 : BitVec 32 := 1#32
  let v217 : BitVec 32 := Scalar.muli v172 c1_i32_241
  let v218 : BitVec 32 := Scalar.addi c0_i32_242 v217
  v218.toNat
def k0_dev14 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_248 : BitVec 32 := 1#32
  let v229 : BitVec 32 := Scalar.xori v5 c1_i32_248
  let c1_i32_249 : BitVec 32 := 1#32
  let v230 : BitVec 32 := Scalar.shrsi v229 c1_i32_249
  let c1_i32_250 : BitVec 32 := 1#32
  let v231 : BitVec 32 := Scalar.andi v230 c1_i32_250
  let v232 : BitVec 32 := Scalar.xori v229 v231
  let c1_i32_279 : BitVec 32 := 1#32
  let v251 : BitVec 32 := Scalar.muli v232 c1_i32_279
  let v252 : BitVec 32 := Scalar.addi c0_i32_280 v251
  v252.toNat
def k0_dev15 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_248 : BitVec 32 := 1#32
  let v229 : BitVec 32 := Scalar.xori v5 c1_i32_248
  let c1_i32_249 : BitVec 32 := 1#32
  let v230 : BitVec 32 := Scalar.shrsi v229 c1_i32_249
  let c1_i32_250 : BitVec 32 := 1#32
  let v231 : BitVec 32 := Scalar.andi v230 c1_i32_250
  let v232 : BitVec 32 := Scalar.xori v229 v231
  let c1_i32_311 : BitVec 32 := 1#32
  let v277 : BitVec 32 := Scalar.muli v232 c1_i32_311
  let v278 : BitVec 32 := Scalar.addi c0_i32_312 v277
  v278.toNat
def k0_dev16 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_318 : BitVec 32 := 1#32
  let v289 : BitVec 32 := Scalar.xori v5 c1_i32_318
  let c1_i32_319 : BitVec 32 := 1#32
  let v290 : BitVec 32 := Scalar.shrsi v289 c1_i32_319
  let c1_i32_320 : BitVec 32 := 1#32
  let v291 : BitVec 32 := Scalar.andi v290 c1_i32_320
  let v292 : BitVec 32 := Scalar.xori v289 v291
  let c1_i32_349 : BitVec 32 := 1#32
  let v311 : BitVec 32 := Scalar.muli v292 c1_i32_349
  let v312 : BitVec 32 := Scalar.addi c0_i32_350 v311
  v312.toNat
def k0_dev17 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_318 : BitVec 32 := 1#32
  let v289 : BitVec 32 := Scalar.xori v5 c1_i32_318
  let c1_i32_319 : BitVec 32 := 1#32
  let v290 : BitVec 32 := Scalar.shrsi v289 c1_i32_319
  let c1_i32_320 : BitVec 32 := 1#32
  let v291 : BitVec 32 := Scalar.andi v290 c1_i32_320
  let v292 : BitVec 32 := Scalar.xori v289 v291
  let c1_i32_381 : BitVec 32 := 1#32
  let v337 : BitVec 32 := Scalar.muli v292 c1_i32_381
  let v338 : BitVec 32 := Scalar.addi c0_i32_382 v337
  v338.toNat
def k0_dev18 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_387 : BitVec 32 := 2#32
  let v349 : BitVec 32 := Scalar.xori v5 c2_i32_387
  let c1_i32_388 : BitVec 32 := 1#32
  let v350 : BitVec 32 := Scalar.shrsi v349 c1_i32_388
  let c1_i32_389 : BitVec 32 := 1#32
  let v351 : BitVec 32 := Scalar.andi v350 c1_i32_389
  let v352 : BitVec 32 := Scalar.xori v349 v351
  let c1_i32_418 : BitVec 32 := 1#32
  let v371 : BitVec 32 := Scalar.muli v352 c1_i32_418
  let v372 : BitVec 32 := Scalar.addi c0_i32_419 v371
  v372.toNat
def k0_dev19 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_387 : BitVec 32 := 2#32
  let v349 : BitVec 32 := Scalar.xori v5 c2_i32_387
  let c1_i32_388 : BitVec 32 := 1#32
  let v350 : BitVec 32 := Scalar.shrsi v349 c1_i32_388
  let c1_i32_389 : BitVec 32 := 1#32
  let v351 : BitVec 32 := Scalar.andi v350 c1_i32_389
  let v352 : BitVec 32 := Scalar.xori v349 v351
  let c1_i32_450 : BitVec 32 := 1#32
  let v397 : BitVec 32 := Scalar.muli v352 c1_i32_450
  let v398 : BitVec 32 := Scalar.addi c0_i32_451 v397
  v398.toNat
def k0_dev20 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_456 : BitVec 32 := 4#32
  let v409 : BitVec 32 := Scalar.xori v5 c4_i32_456
  let c1_i32_457 : BitVec 32 := 1#32
  let v410 : BitVec 32 := Scalar.shrsi v409 c1_i32_457
  let c1_i32_458 : BitVec 32 := 1#32
  let v411 : BitVec 32 := Scalar.andi v410 c1_i32_458
  let v412 : BitVec 32 := Scalar.xori v409 v411
  let c1_i32_487 : BitVec 32 := 1#32
  let v431 : BitVec 32 := Scalar.muli v412 c1_i32_487
  let v432 : BitVec 32 := Scalar.addi c0_i32_488 v431
  v432.toNat
def k0_dev21 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_456 : BitVec 32 := 4#32
  let v409 : BitVec 32 := Scalar.xori v5 c4_i32_456
  let c1_i32_457 : BitVec 32 := 1#32
  let v410 : BitVec 32 := Scalar.shrsi v409 c1_i32_457
  let c1_i32_458 : BitVec 32 := 1#32
  let v411 : BitVec 32 := Scalar.andi v410 c1_i32_458
  let v412 : BitVec 32 := Scalar.xori v409 v411
  let c1_i32_519 : BitVec 32 := 1#32
  let v457 : BitVec 32 := Scalar.muli v412 c1_i32_519
  let v458 : BitVec 32 := Scalar.addi c0_i32_520 v457
  v458.toNat
def k0_dev22 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_526 : BitVec 32 := 4#32
  let v469 : BitVec 32 := Scalar.xori v5 c4_i32_526
  let c1_i32_527 : BitVec 32 := 1#32
  let v470 : BitVec 32 := Scalar.shrsi v469 c1_i32_527
  let c1_i32_528 : BitVec 32 := 1#32
  let v471 : BitVec 32 := Scalar.andi v470 c1_i32_528
  let v472 : BitVec 32 := Scalar.xori v469 v471
  let c1_i32_557 : BitVec 32 := 1#32
  let v491 : BitVec 32 := Scalar.muli v472 c1_i32_557
  let v492 : BitVec 32 := Scalar.addi c0_i32_558 v491
  v492.toNat
def k0_dev23 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_526 : BitVec 32 := 4#32
  let v469 : BitVec 32 := Scalar.xori v5 c4_i32_526
  let c1_i32_527 : BitVec 32 := 1#32
  let v470 : BitVec 32 := Scalar.shrsi v469 c1_i32_527
  let c1_i32_528 : BitVec 32 := 1#32
  let v471 : BitVec 32 := Scalar.andi v470 c1_i32_528
  let v472 : BitVec 32 := Scalar.xori v469 v471
  let c1_i32_589 : BitVec 32 := 1#32
  let v517 : BitVec 32 := Scalar.muli v472 c1_i32_589
  let v518 : BitVec 32 := Scalar.addi c0_i32_590 v517
  v518.toNat
def k0_dev24 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_596 : BitVec 32 := 1#32
  let v529 : BitVec 32 := Scalar.xori v5 c1_i32_596
  let c1_i32_597 : BitVec 32 := 1#32
  let v530 : BitVec 32 := Scalar.shrsi v529 c1_i32_597
  let c1_i32_598 : BitVec 32 := 1#32
  let v531 : BitVec 32 := Scalar.andi v530 c1_i32_598
  let v532 : BitVec 32 := Scalar.xori v529 v531
  let c1_i32_627 : BitVec 32 := 1#32
  let v551 : BitVec 32 := Scalar.muli v532 c1_i32_627
  let v552 : BitVec 32 := Scalar.addi c0_i32_628 v551
  v552.toNat
def k0_dev25 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_596 : BitVec 32 := 1#32
  let v529 : BitVec 32 := Scalar.xori v5 c1_i32_596
  let c1_i32_597 : BitVec 32 := 1#32
  let v530 : BitVec 32 := Scalar.shrsi v529 c1_i32_597
  let c1_i32_598 : BitVec 32 := 1#32
  let v531 : BitVec 32 := Scalar.andi v530 c1_i32_598
  let v532 : BitVec 32 := Scalar.xori v529 v531
  let c1_i32_659 : BitVec 32 := 1#32
  let v577 : BitVec 32 := Scalar.muli v532 c1_i32_659
  let v578 : BitVec 32 := Scalar.addi c0_i32_660 v577
  v578.toNat
def k0_dev26 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_666 : BitVec 32 := 2#32
  let v589 : BitVec 32 := Scalar.xori v5 c2_i32_666
  let c1_i32_667 : BitVec 32 := 1#32
  let v590 : BitVec 32 := Scalar.shrsi v589 c1_i32_667
  let c1_i32_668 : BitVec 32 := 1#32
  let v591 : BitVec 32 := Scalar.andi v590 c1_i32_668
  let v592 : BitVec 32 := Scalar.xori v589 v591
  let c1_i32_697 : BitVec 32 := 1#32
  let v611 : BitVec 32 := Scalar.muli v592 c1_i32_697
  let v612 : BitVec 32 := Scalar.addi c0_i32_698 v611
  v612.toNat
def k0_dev27 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_666 : BitVec 32 := 2#32
  let v589 : BitVec 32 := Scalar.xori v5 c2_i32_666
  let c1_i32_667 : BitVec 32 := 1#32
  let v590 : BitVec 32 := Scalar.shrsi v589 c1_i32_667
  let c1_i32_668 : BitVec 32 := 1#32
  let v591 : BitVec 32 := Scalar.andi v590 c1_i32_668
  let v592 : BitVec 32 := Scalar.xori v589 v591
  let c1_i32_729 : BitVec 32 := 1#32
  let v637 : BitVec 32 := Scalar.muli v592 c1_i32_729
  let v638 : BitVec 32 := Scalar.addi c0_i32_730 v637
  v638.toNat
def k0_dev28 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_736 : BitVec 32 := 1#32
  let v649 : BitVec 32 := Scalar.xori v5 c1_i32_736
  let c1_i32_737 : BitVec 32 := 1#32
  let v650 : BitVec 32 := Scalar.shrsi v649 c1_i32_737
  let c1_i32_738 : BitVec 32 := 1#32
  let v651 : BitVec 32 := Scalar.andi v650 c1_i32_738
  let v652 : BitVec 32 := Scalar.xori v649 v651
  let c1_i32_767 : BitVec 32 := 1#32
  let v671 : BitVec 32 := Scalar.muli v652 c1_i32_767
  let v672 : BitVec 32 := Scalar.addi c0_i32_768 v671
  v672.toNat
def k0_dev29 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_736 : BitVec 32 := 1#32
  let v649 : BitVec 32 := Scalar.xori v5 c1_i32_736
  let c1_i32_737 : BitVec 32 := 1#32
  let v650 : BitVec 32 := Scalar.shrsi v649 c1_i32_737
  let c1_i32_738 : BitVec 32 := 1#32
  let v651 : BitVec 32 := Scalar.andi v650 c1_i32_738
  let v652 : BitVec 32 := Scalar.xori v649 v651
  let c1_i32_799 : BitVec 32 := 1#32
  let v697 : BitVec 32 := Scalar.muli v652 c1_i32_799
  let v698 : BitVec 32 := Scalar.addi c0_i32_800 v697
  v698.toNat
def k0_dev30 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_806 : BitVec 32 := 2#32
  let v709 : BitVec 32 := Scalar.xori v5 c2_i32_806
  let c1_i32_807 : BitVec 32 := 1#32
  let v710 : BitVec 32 := Scalar.shrsi v709 c1_i32_807
  let c1_i32_808 : BitVec 32 := 1#32
  let v711 : BitVec 32 := Scalar.andi v710 c1_i32_808
  let v712 : BitVec 32 := Scalar.xori v709 v711
  let c1_i32_837 : BitVec 32 := 1#32
  let v731 : BitVec 32 := Scalar.muli v712 c1_i32_837
  let v732 : BitVec 32 := Scalar.addi c0_i32_838 v731
  v732.toNat
def k0_dev31 (d0 : Dev nD) : Nat :=
  let c0_i32_870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_806 : BitVec 32 := 2#32
  let v709 : BitVec 32 := Scalar.xori v5 c2_i32_806
  let c1_i32_807 : BitVec 32 := 1#32
  let v710 : BitVec 32 := Scalar.shrsi v709 c1_i32_807
  let c1_i32_808 : BitVec 32 := 1#32
  let v711 : BitVec 32 := Scalar.andi v710 c1_i32_808
  let v712 : BitVec 32 := Scalar.xori v709 v711
  let c1_i32_869 : BitVec 32 := 1#32
  let v757 : BitVec 32 := Scalar.muli v712 c1_i32_869
  let v758 : BitVec 32 := Scalar.addi c0_i32_870 v757
  v758.toNat
def k0_dev32 (d0 : Dev nD) : Nat :=
  let c0_i32_908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_876 : BitVec 32 := 4#32
  let v769 : BitVec 32 := Scalar.xori v5 c4_i32_876
  let c1_i32_877 : BitVec 32 := 1#32
  let v770 : BitVec 32 := Scalar.shrsi v769 c1_i32_877
  let c1_i32_878 : BitVec 32 := 1#32
  let v771 : BitVec 32 := Scalar.andi v770 c1_i32_878
  let v772 : BitVec 32 := Scalar.xori v769 v771
  let c1_i32_907 : BitVec 32 := 1#32
  let v791 : BitVec 32 := Scalar.muli v772 c1_i32_907
  let v792 : BitVec 32 := Scalar.addi c0_i32_908 v791
  v792.toNat
def k0_dev33 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_876 : BitVec 32 := 4#32
  let v769 : BitVec 32 := Scalar.xori v5 c4_i32_876
  let c1_i32_877 : BitVec 32 := 1#32
  let v770 : BitVec 32 := Scalar.shrsi v769 c1_i32_877
  let c1_i32_878 : BitVec 32 := 1#32
  let v771 : BitVec 32 := Scalar.andi v770 c1_i32_878
  let v772 : BitVec 32 := Scalar.xori v769 v771
  let c1_i32_939 : BitVec 32 := 1#32
  let v817 : BitVec 32 := Scalar.muli v772 c1_i32_939
  let v818 : BitVec 32 := Scalar.addi c0_i32_940 v817
  v818.toNat
def k0_dev34 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_945 : BitVec 32 := 2#32
  let v829 : BitVec 32 := Scalar.xori v5 c2_i32_945
  let c1_i32_946 : BitVec 32 := 1#32
  let v830 : BitVec 32 := Scalar.shrsi v829 c1_i32_946
  let c1_i32_947 : BitVec 32 := 1#32
  let v831 : BitVec 32 := Scalar.andi v830 c1_i32_947
  let v832 : BitVec 32 := Scalar.xori v829 v831
  let c1_i32_976 : BitVec 32 := 1#32
  let v851 : BitVec 32 := Scalar.muli v832 c1_i32_976
  let v852 : BitVec 32 := Scalar.addi c0_i32_977 v851
  v852.toNat
def k0_dev35 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_945 : BitVec 32 := 2#32
  let v829 : BitVec 32 := Scalar.xori v5 c2_i32_945
  let c1_i32_946 : BitVec 32 := 1#32
  let v830 : BitVec 32 := Scalar.shrsi v829 c1_i32_946
  let c1_i32_947 : BitVec 32 := 1#32
  let v831 : BitVec 32 := Scalar.andi v830 c1_i32_947
  let v832 : BitVec 32 := Scalar.xori v829 v831
  let c1_i32_1008 : BitVec 32 := 1#32
  let v877 : BitVec 32 := Scalar.muli v832 c1_i32_1008
  let v878 : BitVec 32 := Scalar.addi c0_i32_1009 v877
  v878.toNat
def k0_dev36 (d0 : Dev nD) : Nat :=
  let c0_i32_1047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1015 : BitVec 32 := 4#32
  let v889 : BitVec 32 := Scalar.xori v5 c4_i32_1015
  let c1_i32_1016 : BitVec 32 := 1#32
  let v890 : BitVec 32 := Scalar.shrsi v889 c1_i32_1016
  let c1_i32_1017 : BitVec 32 := 1#32
  let v891 : BitVec 32 := Scalar.andi v890 c1_i32_1017
  let v892 : BitVec 32 := Scalar.xori v889 v891
  let c1_i32_1046 : BitVec 32 := 1#32
  let v911 : BitVec 32 := Scalar.muli v892 c1_i32_1046
  let v912 : BitVec 32 := Scalar.addi c0_i32_1047 v911
  v912.toNat
def k0_dev37 (d0 : Dev nD) : Nat :=
  let c0_i32_1079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1015 : BitVec 32 := 4#32
  let v889 : BitVec 32 := Scalar.xori v5 c4_i32_1015
  let c1_i32_1016 : BitVec 32 := 1#32
  let v890 : BitVec 32 := Scalar.shrsi v889 c1_i32_1016
  let c1_i32_1017 : BitVec 32 := 1#32
  let v891 : BitVec 32 := Scalar.andi v890 c1_i32_1017
  let v892 : BitVec 32 := Scalar.xori v889 v891
  let c1_i32_1078 : BitVec 32 := 1#32
  let v937 : BitVec 32 := Scalar.muli v892 c1_i32_1078
  let v938 : BitVec 32 := Scalar.addi c0_i32_1079 v937
  v938.toNat
def k0_dev38 (d0 : Dev nD) : Nat :=
  let c0_i32_1117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1085 : BitVec 32 := 1#32
  let v949 : BitVec 32 := Scalar.xori v5 c1_i32_1085
  let c1_i32_1086 : BitVec 32 := 1#32
  let v950 : BitVec 32 := Scalar.shrsi v949 c1_i32_1086
  let c1_i32_1087 : BitVec 32 := 1#32
  let v951 : BitVec 32 := Scalar.andi v950 c1_i32_1087
  let v952 : BitVec 32 := Scalar.xori v949 v951
  let c1_i32_1116 : BitVec 32 := 1#32
  let v971 : BitVec 32 := Scalar.muli v952 c1_i32_1116
  let v972 : BitVec 32 := Scalar.addi c0_i32_1117 v971
  v972.toNat
def k0_dev39 (d0 : Dev nD) : Nat :=
  let c0_i32_1149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1085 : BitVec 32 := 1#32
  let v949 : BitVec 32 := Scalar.xori v5 c1_i32_1085
  let c1_i32_1086 : BitVec 32 := 1#32
  let v950 : BitVec 32 := Scalar.shrsi v949 c1_i32_1086
  let c1_i32_1087 : BitVec 32 := 1#32
  let v951 : BitVec 32 := Scalar.andi v950 c1_i32_1087
  let v952 : BitVec 32 := Scalar.xori v949 v951
  let c1_i32_1148 : BitVec 32 := 1#32
  let v997 : BitVec 32 := Scalar.muli v952 c1_i32_1148
  let v998 : BitVec 32 := Scalar.addi c0_i32_1149 v997
  v998.toNat
def k0_dev40 (d0 : Dev nD) : Nat :=
  let c0_i32_1187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1155 : BitVec 32 := 1#32
  let v1009 : BitVec 32 := Scalar.xori v5 c1_i32_1155
  let c1_i32_1156 : BitVec 32 := 1#32
  let v1010 : BitVec 32 := Scalar.shrsi v1009 c1_i32_1156
  let c1_i32_1157 : BitVec 32 := 1#32
  let v1011 : BitVec 32 := Scalar.andi v1010 c1_i32_1157
  let v1012 : BitVec 32 := Scalar.xori v1009 v1011
  let c1_i32_1186 : BitVec 32 := 1#32
  let v1031 : BitVec 32 := Scalar.muli v1012 c1_i32_1186
  let v1032 : BitVec 32 := Scalar.addi c0_i32_1187 v1031
  v1032.toNat
def k0_dev41 (d0 : Dev nD) : Nat :=
  let c0_i32_1219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1155 : BitVec 32 := 1#32
  let v1009 : BitVec 32 := Scalar.xori v5 c1_i32_1155
  let c1_i32_1156 : BitVec 32 := 1#32
  let v1010 : BitVec 32 := Scalar.shrsi v1009 c1_i32_1156
  let c1_i32_1157 : BitVec 32 := 1#32
  let v1011 : BitVec 32 := Scalar.andi v1010 c1_i32_1157
  let v1012 : BitVec 32 := Scalar.xori v1009 v1011
  let c1_i32_1218 : BitVec 32 := 1#32
  let v1057 : BitVec 32 := Scalar.muli v1012 c1_i32_1218
  let v1058 : BitVec 32 := Scalar.addi c0_i32_1219 v1057
  v1058.toNat
def k0_dev42 (d0 : Dev nD) : Nat :=
  let c0_i32_1257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1225 : BitVec 32 := 2#32
  let v1069 : BitVec 32 := Scalar.xori v5 c2_i32_1225
  let c1_i32_1226 : BitVec 32 := 1#32
  let v1070 : BitVec 32 := Scalar.shrsi v1069 c1_i32_1226
  let c1_i32_1227 : BitVec 32 := 1#32
  let v1071 : BitVec 32 := Scalar.andi v1070 c1_i32_1227
  let v1072 : BitVec 32 := Scalar.xori v1069 v1071
  let c1_i32_1256 : BitVec 32 := 1#32
  let v1091 : BitVec 32 := Scalar.muli v1072 c1_i32_1256
  let v1092 : BitVec 32 := Scalar.addi c0_i32_1257 v1091
  v1092.toNat
def k0_dev43 (d0 : Dev nD) : Nat :=
  let c0_i32_1289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1225 : BitVec 32 := 2#32
  let v1069 : BitVec 32 := Scalar.xori v5 c2_i32_1225
  let c1_i32_1226 : BitVec 32 := 1#32
  let v1070 : BitVec 32 := Scalar.shrsi v1069 c1_i32_1226
  let c1_i32_1227 : BitVec 32 := 1#32
  let v1071 : BitVec 32 := Scalar.andi v1070 c1_i32_1227
  let v1072 : BitVec 32 := Scalar.xori v1069 v1071
  let c1_i32_1288 : BitVec 32 := 1#32
  let v1117 : BitVec 32 := Scalar.muli v1072 c1_i32_1288
  let v1118 : BitVec 32 := Scalar.addi c0_i32_1289 v1117
  v1118.toNat
def k0_dev44 (d0 : Dev nD) : Nat :=
  let c0_i32_1327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1295 : BitVec 32 := 4#32
  let v1129 : BitVec 32 := Scalar.xori v5 c4_i32_1295
  let c1_i32_1296 : BitVec 32 := 1#32
  let v1130 : BitVec 32 := Scalar.shrsi v1129 c1_i32_1296
  let c1_i32_1297 : BitVec 32 := 1#32
  let v1131 : BitVec 32 := Scalar.andi v1130 c1_i32_1297
  let v1132 : BitVec 32 := Scalar.xori v1129 v1131
  let c1_i32_1326 : BitVec 32 := 1#32
  let v1151 : BitVec 32 := Scalar.muli v1132 c1_i32_1326
  let v1152 : BitVec 32 := Scalar.addi c0_i32_1327 v1151
  v1152.toNat
def k0_dev45 (d0 : Dev nD) : Nat :=
  let c0_i32_1359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1295 : BitVec 32 := 4#32
  let v1129 : BitVec 32 := Scalar.xori v5 c4_i32_1295
  let c1_i32_1296 : BitVec 32 := 1#32
  let v1130 : BitVec 32 := Scalar.shrsi v1129 c1_i32_1296
  let c1_i32_1297 : BitVec 32 := 1#32
  let v1131 : BitVec 32 := Scalar.andi v1130 c1_i32_1297
  let v1132 : BitVec 32 := Scalar.xori v1129 v1131
  let c1_i32_1358 : BitVec 32 := 1#32
  let v1177 : BitVec 32 := Scalar.muli v1132 c1_i32_1358
  let v1178 : BitVec 32 := Scalar.addi c0_i32_1359 v1177
  v1178.toNat
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Canon.lean ====
module

public import proofs.«01_k».proof.Proof.Gen.KernelIdeal
public import proofs.«01_k».proof.Proof.Gen.KernelIdeal.Skeleton
public import Idealize.ShloMosaic.Lib.Pipeline.Regions

@[expose] public section

noncomputable section

/-! # The kernel as loops over its 42 copies

The printed body lists its 42 remote copies one after another. Numbered in that order, copy `e` is hop `e / 6` of one
of six walks (`e % 6`: three cube walks, each on two segments of the block). Here the body is stated as four loops over
that number, and the two are the same program. -/

namespace Cert.KernelIdealProof

open Cert.KernelIdeal Cert.KernelIdeal.Gen
open Idealize.ShloMosaic Idealize.SL.Sem

variable {F : FTy → Type} [FloatOps F]

/-! ## Which rows a copy moves -/

/-- The walks whose segment has 688 rows; the others have 680. -/
abbrev big (w : ℕ) : Bool := w == 0 || w == 2

/-- Rows in a segment of walk `w`. -/
abbrev len (w : ℕ) : ℕ := bif big w then 688 else 680

/-- First row of walk `w`'s segment, within a block of 4096 rows. -/
abbrev base (w : ℕ) : ℕ := match w with | 0 => 0 | 1 => 688 | 2 => 1368 | 3 => 2056 | 4 => 2736 | _ => 3416

/-- The two words the printed offsets add up to that row. -/
abbrev rowW (w : ℕ) : BitVec 32 := match w with | 0 | 1 => 0#32 | 2 | 3 => 1368#32 | _ => 2736#32
abbrev segW (w : ℕ) : BitVec 32 := match w with | 1 | 3 => 688#32 | 4 => 0#32 | _ => 680#32

/-- The xor (on cube codes) from a device to the origin of what lands with copy `e`. -/
abbrev preN : Fin 42 → ℕ := ![1, 1, 2, 2, 4, 4, 3, 3, 6, 6, 5, 5, 2, 2, 4, 4, 1, 1, 6, 6, 5, 5, 3, 3, 7, 7, 7, 7, 7, 7, 5, 5, 3, 3, 6, 6, 4, 4, 1, 1, 2, 2]
abbrev preW : Fin 42 → BitVec 32 := ![1#32, 1#32, 2#32, 2#32, 4#32, 4#32, 3#32, 3#32, 6#32, 6#32, 5#32, 5#32, 2#32, 2#32, 4#32, 4#32, 1#32, 1#32, 6#32, 6#32, 5#32, 5#32, 3#32, 3#32, 7#32, 7#32, 7#32, 7#32, 7#32, 7#32, 5#32, 5#32, 3#32, 3#32, 6#32, 6#32, 4#32, 4#32, 1#32, 1#32, 2#32, 2#32]

/-- The cube axis copy `e` goes along: it moves between codes that differ by `1`, `2` or `4`. -/
abbrev axis : Fin 42 → Fin 3 := ![0, 0, 1, 1, 2, 2, 1, 1, 2, 2, 0, 0, 0, 0, 1, 1, 2, 2, 2, 2, 0, 0, 1, 1, 0, 0, 1, 1, 2, 2, 1, 1, 2, 2, 0, 0, 0, 0, 1, 1, 2, 2]

/-- The cube code of a device, and (the map is its own inverse) the device of a code. -/
abbrev code (v : ℕ) : ℕ := v ^^^ ((v >>> 1) &&& 1)

/-- The device at xor `x` from `c` on the cube. -/
def at_ (x : ℕ) (c : Dev nD) : Dev nD := ⟨code (code c.val ^^^ x) % 8, Nat.mod_lt _ (by decide)⟩

/-- The neighbour along an axis. -/
abbrev nb (a : Fin 3) (c : Dev nD) : Dev nD := at_ (2 ^ a.val) c
/-- Where copy `e` of `c` goes. -/
abbrev prt (e : Fin 42) (c : Dev nD) : Dev nD := nb (axis e) c
/-- Whose rows land on `c` with copy `e` of its neighbour. -/
abbrev org (e : Fin 42) (c : Dev nD) : Dev nD := at_ (preN e) c
/-- The copy of the same walk one hop earlier. -/
abbrev prev (e : Fin 42) : Fin 42 := ⟨e.val - 6, by omega⟩
/-- Whose rows `c` forwards with copy `e`: its own on the first hop, then those landed a hop earlier. -/
abbrev so (e : Fin 42) (c : Dev nD) : Dev nD := if e.val < 6 then c else org (prev e) c

/-! ## The printed chains -/

def ownOff (d : Dev nD) (w : ℕ) : Fin 2 → ℕ := bif big w then k0_off2 d (rowW w) else k0_off3 d (rowW w) (segW w)
def arrOff (d : Dev nD) (e : Fin 42) : Fin 2 → ℕ :=
  bif big (e.val % 6) then k0_off4 d (preW e) (rowW (e.val % 6)) else k0_off5 d (preW e) (rowW (e.val % 6)) (segW (e.val % 6))

theorem ownOff_eq (d : Dev nD) (w : Fin 6) : ownOff d w.val = ![4096 * d.val + base w.val, 0] := by
  revert d w; decide +kernel
theorem arrOff_eq (d : Dev nD) (e : Fin 42) : arrOff d e = ![4096 * (org e d).val + base (e.val % 6), 0] := by
  revert d e; decide +kernel

theorem inb_out (o : Dev nD) (w : Fin 6) : ∀ a, (![4096 * o.val + base w.val, 0] : Fin 2 → ℕ) a + (![len w.val, 1024] : Fin 2 → ℕ) a ≤ S32768x1024.size a := by
  revert o w; decide +kernel
theorem inb_x (w : Fin 6) : ∀ a, (![base w.val, 0] : Fin 2 → ℕ) a + (![len w.val, 1024] : Fin 2 → ℕ) a ≤ S4096x1024.size a := by
  revert w; decide +kernel
theorem inb_sem (e : Fin 42) : ∀ a, (![e.val % 6 / 2, e.val / 6, e.val % 2] : Fin 3 → ℕ) a + S1x1x1.size a ≤ S3x7x2.size a := by
  revert e; decide +kernel

abbrev wk (e : Fin 42) : Fin 6 := ⟨e.val % 6, Nat.mod_lt _ (by decide)⟩

theorem ownOff_inb (d : Dev nD) (w : Fin 6) : ∀ a, ownOff d w.val a + (![len w.val, 1024] : Fin 2 → ℕ) a ≤ S32768x1024.size a := by
  rw [ownOff_eq]; exact inb_out d w
theorem arrOff_inb (d : Dev nD) (e : Fin 42) : ∀ a, arrOff d e a + (![len (e.val % 6), 1024] : Fin 2 → ℕ) a ≤ S32768x1024.size a := by
  rw [arrOff_eq]; exact inb_out (org e d) (wk e)

abbrev devTab : Fin 42 → Dev nD → ℕ := ![k0_dev4, k0_dev5, k0_dev6, k0_dev7, k0_dev8, k0_dev9, k0_dev10, k0_dev11, k0_dev12, k0_dev13, k0_dev14,
  k0_dev15, k0_dev16, k0_dev17, k0_dev18, k0_dev19, k0_dev20, k0_dev21, k0_dev22, k0_dev23, k0_dev24, k0_dev25, k0_dev26, k0_dev27, k0_dev28,
  k0_dev29, k0_dev30, k0_dev31, k0_dev32, k0_dev33, k0_dev34, k0_dev35, k0_dev36, k0_dev37, k0_dev38, k0_dev39, k0_dev40, k0_dev41, k0_dev42,
  k0_dev43, k0_dev44, k0_dev45]

theorem devTab_eq (e : Fin 42) (d : Dev nD) : devTab e d = (prt e d).val := by
  revert e d; decide +kernel
theorem devTab_lt (e : Fin 42) (d : Dev nD) : devTab e d < nD := by rw [devTab_eq]; exact (prt e d).isLt

/-! ## The operations -/

abbrev xM : Memref sig .tc .hbm S4096x1024 .f32 := Memref.whole main_arg0
abbrev oM : Memref sig .tc .hbm S32768x1024 .f32 := Memref.whole main_v1

abbrev segShape (w : ℕ) : Shape := ⟨2, ![len w, 1024]⟩

/-- A segment of `x`, and `len w` rows of the result at the offsets `off`. -/
abbrev xSeg (w : Fin 6) : Memref sig .tc .hbm (segShape w.val) .f32 :=
  xM.slice (Rect.unit (s := S4096x1024) ![base w.val, 0] ![len w.val, 1024] (inb_x w)) (fun _ => rfl)
abbrev oSeg (w : ℕ) (off : Fin 2 → ℕ) (h : ∀ a, off a + (![len w, 1024] : Fin 2 → ℕ) a ≤ S32768x1024.size a) : Memref sig .tc .hbm (segShape w) .f32 :=
  oM.slice (Rect.unit (s := S32768x1024) off ![len w, 1024] h) (fun _ => rfl)

abbrev ownSeg (d : Dev nD) (w : Fin 6) := oSeg w.val (ownOff d w.val) (ownOff_inb d w)
abbrev arrSeg (d : Dev nD) (e : Fin 42) := oSeg (e.val % 6) (arrOff d e) (arrOff_inb d e)
abbrev ownBlk (d : Dev nD) : Memref sig .tc .hbm S4096x1024 .f32 :=
  oM.slice (Rect.unit (s := S32768x1024) (k0_off1 d) S4096x1024.size (k0_off1_inb d)) (fun _ => rfl)

abbrev semAt (arr : DmaSems sig S3x7x2) (e : Fin 42) : DmaSem sig :=
  ((arr.slice (Rect.unit (s := S3x7x2) ![e.val % 6 / 2, e.val / 6, e.val % 2] S1x1x1.size (inb_sem e))).squeeze S_ squeezes_S1x1x1_S_).sem
abbrev sS (e : Fin 42) : DmaSem sig := semAt cc0_scratch1 e
abbrev rS (e : Fin 42) : DmaSem sig := semAt cc0_scratch2 e
abbrev lS : DmaSem sig := (cc0_scratch0 : DmaSems sig S_).sem
abbrev bS : Sem sig := (SemArray.scalar (sig.barrier 0 rfl) : Sems sig S_).sem

abbrev EffT (F : FTy → Type) [FloatOps F] := TpuEff nD τ sig (Elt F) Λ₀ .tc

def recvOp (d : Dev nD) (e : Fin 42) : Prog (EffT F) PUnit :=
  Prog.lift (.waitDma2 (rS e) (arrSeg d e) (arrSeg d e) (View.wordExact_bits rfl) (View.wordExact_bits rfl))

def sendOp (d : Dev nD) (e : Fin 42) : Prog (EffT F) PUnit :=
  if e.val < 6 then
    Prog.lift (.enqueueDma (xSeg (wk e)) (.remote (Dev.tc (⟨devTab e d, devTab_lt e d⟩ : Dev nD)) (ownSeg d (wk e)) (.dma (sS e))) (.dma (rS e))
      (View.wordExact_bits rfl) (View.wordExact_bits rfl) ⟨⟨rfl, Or.inl rfl⟩, trivial⟩)
  else
    Prog.lift (.enqueueDma (arrSeg d (prev e)) (.remote (Dev.tc (⟨devTab e d, devTab_lt e d⟩ : Dev nD)) (arrSeg d (prev e)) (.dma (sS e))) (.dma (rS e))
      (View.wordExact_bits rfl) (View.wordExact_bits rfl) ⟨⟨rfl, Or.inl rfl⟩, trivial⟩)

/-- One round of the forwarding loop: past the first hop, wait for what is to be forwarded; then send it. -/
def stepOp (d : Dev nD) (e : Fin 42) : Prog (EffT F) PUnit :=
  if e.val < 6 then sendOp d e else do recvOp d (prev e); sendOp d e

def sentOp (d : Dev nD) (e : Fin 42) : Prog (EffT F) PUnit :=
  Prog.lift (.waitDma2 (sS e) (ownSeg d (wk e)) (xSeg (wk e)) (View.wordExact_bits rfl) (View.wordExact_bits rfl))

/-- The last `n` of the 42 copies, in order. -/
def loop (f : Fin 42 → Prog (EffT F) PUnit) : ℕ → Prog (EffT F) PUnit
  | 0 => pure ⟨⟩
  | n + 1 => do f ⟨41 - n, by omega⟩; loop f n

/-- The kernel after it has read its device id. -/
def canon (d : Dev nD) : Prog (EffT F) PUnit := do
  semSignalWord (⟨k0_dev1 d, k0_dev1_lt d⟩ : Dev nD) bS 1#32
  semSignalWord (⟨k0_dev2 d, k0_dev2_lt d⟩ : Dev nD) bS 1#32
  semSignalWord (⟨k0_dev3 d, k0_dev3_lt d⟩ : Dev nD) bS 1#32
  semWaitWord bS 3#32
  Prog.lift (.enqueueDma xM (.here (ownBlk d)) (.dma lS) (Memref.isWhole_whole _).wordExact (View.wordExact_bits rfl) ⟨Or.inl rfl, trivial⟩)
  loop (stepOp d) 42
  loop (recvOp d) 6
  loop (sentOp d) 42
  Prog.lift (.waitDma2 lS xM (ownBlk d) (Memref.isWhole_whole _).wordExact (View.wordExact_bits rfl))

set_option maxRecDepth 65536 in
/-- The printed body is those loops. -/
theorem body_eq : cc0_body (F := F) (Memref.whole main_arg0) (Memref.isWhole_whole _) (Memref.whole main_v1) (Memref.isWhole_whole _) cc0_scratch0 cc0_scratch1 cc0_scratch2
    = (Prog.lift .deviceId >>= fun d => canon d) := by
  chain_rfl

end Cert.KernelIdealProof

end
-- ==== Proof.Geo.lean ====
module

public import proofs.«01_k».proof.Proof.Canon
public import Idealize.ShloMosaic.Lib.ViewIndex

@[expose] public section

noncomputable section

/-! # The cube walks, the regions and what they end holding

Which device a copy goes to and whose rows it carries; the result array as eight blocks of six segments; and the
gathered array, which every region a copy writes already shows. -/

namespace Cert.KernelIdealProof

open Cert.KernelIdeal Cert.KernelIdeal.Gen
open Idealize.ShloMosaic Idealize.ShloMosaic.TcCoe Idealize.SL Idealize.SL.Sem

variable {F : FTy → Type} [FloatOps F]

/-! ## The cube -/

theorem nb_nb (a : Fin 3) (c : Dev nD) : nb a (nb a c) = c := by revert a c; decide +kernel
theorem prt_prt (e : Fin 42) (c : Dev nD) : prt e (prt e c) = c := nb_nb (axis e) c
theorem nb_ne (a a' : Fin 3) (c : Dev nD) (h : a ≠ a') : nb a c ≠ nb a' c := by revert a a' c; decide +kernel
/-- What the neighbour receives is what is sent. -/
theorem org_prt (e : Fin 42) (c : Dev nD) : org e (prt e c) = so e c := by revert e c; decide +kernel
theorem so_prt (e : Fin 42) (c : Dev nD) : so e (prt e c) = org e c := by rw [← org_prt, prt_prt]
theorem org_ne (e : Fin 42) (c : Dev nD) : org e c ≠ c := by revert e c; decide +kernel
/-- A device receives each segment of each other device's block once. -/
theorem org_inj (c : Dev nD) (e e' : Fin 42) (h : org e c = org e' c) (hw : wk e = wk e') : e = e' := by
  revert c e e'; decide +kernel
theorem org_surj (c : Dev nD) (o : Dev nD) (w : Fin 6) (h : o ≠ c) : ∃ e : Fin 42, org e c = o ∧ wk e = w := by
  revert c o w; decide +kernel
theorem wk_prev (e : Fin 42) (h : 6 ≤ e.val) : wk (prev e) = wk e := Fin.ext (by simp only [wk, prev]; omega)
theorem so_later (e : Fin 42) (c : Dev nD) (h : 6 ≤ e.val) : so e c = org (prev e) c := if_neg (by omega)
theorem so_first (e : Fin 42) (c : Dev nD) (h : e.val < 6) : so e c = c := if_pos h

/-- The neighbour along an axis, as a swap of the devices. -/
def swap (a : Fin 3) : Dev nD ≃ Dev nD := ⟨nb a, nb a, nb_nb a, nb_nb a⟩

/-! ## The regions -/

/-- Segment `w` of device `o`'s block of the result; the whole of that block; segment `w` of `x`. -/
def reg (o : Dev nD) (w : Fin 6) : Finset S32768x1024.Idx := (Rect.unit (s := S32768x1024) ![4096 * o.val + base w.val, 0] ![len w.val, 1024] (inb_out o w)).set
def blk (o : Dev nD) : Finset S32768x1024.Idx := (Rect.unit (s := S32768x1024) (k0_off1 o) S4096x1024.size (k0_off1_inb o)).set
def xreg (w : Fin 6) : Finset S4096x1024.Idx := (Rect.unit (s := S4096x1024) ![base w.val, 0] ![len w.val, 1024] (inb_x w)).set

theorem mem_reg {o : Dev nD} {w : Fin 6} {i : S32768x1024.Idx} :
    i ∈ reg o w ↔ 4096 * o.val + base w.val ≤ (i 0).val ∧ (i 0).val < 4096 * o.val + base w.val + len w.val := by
  unfold reg
  rw [Rect.mem_set_unit]
  refine ⟨fun h => h 0, fun h a => ?_⟩
  rcases a with ⟨_ | _ | a, ha⟩
  · exact h
  · have := (i 1).isLt
    exact ⟨Nat.zero_le _, by rw [show (![4096 * o.val + base w.val, 0] : Fin 2 → ℕ) ⟨1, ha⟩ + (![len w.val, 1024] : Fin 2 → ℕ) ⟨1, ha⟩ = 1024 from rfl]; exact this⟩
  · exact absurd ha (by change ¬ a + 2 < 2; omega)

theorem mem_xreg {w : Fin 6} {i : S4096x1024.Idx} : i ∈ xreg w ↔ base w.val ≤ (i 0).val ∧ (i 0).val < base w.val + len w.val := by
  unfold xreg
  rw [Rect.mem_set_unit]
  refine ⟨fun h => h 0, fun h a => ?_⟩
  rcases a with ⟨_ | _ | a, ha⟩
  · exact h
  · have := (i 1).isLt
    exact ⟨Nat.zero_le _, by rw [show (![base w.val, 0] : Fin 2 → ℕ) ⟨1, ha⟩ + (![len w.val, 1024] : Fin 2 → ℕ) ⟨1, ha⟩ = 1024 from rfl]; exact this⟩
  · exact absurd ha (by change ¬ a + 2 < 2; omega)

theorem off1_eq (o : Dev nD) : k0_off1 o = ![4096 * o.val, 0] := by revert o; decide +kernel

theorem mem_blk {o : Dev nD} {i : S32768x1024.Idx} : i ∈ blk o ↔ 4096 * o.val ≤ (i 0).val ∧ (i 0).val < 4096 * o.val + 4096 := by
  unfold blk
  rw [Rect.mem_set_unit, off1_eq]
  refine ⟨fun h => h 0, fun h a => ?_⟩
  rcases a with ⟨_ | _ | a, ha⟩
  · exact h
  · have := (i 1).isLt
    exact ⟨Nat.zero_le _, by rw [show (![4096 * o.val, 0] : Fin 2 → ℕ) ⟨1, ha⟩ + S4096x1024.size ⟨1, ha⟩ = 1024 from rfl]; exact this⟩
  · exact absurd ha (by change ¬ a + 2 < 2; omega)

/-- The six segments follow one another over the 4096 rows of a block. -/
theorem seg_disjoint (w w' : Fin 6) (h : w ≠ w') : base w.val + len w.val ≤ base w'.val ∨ base w'.val + len w'.val ≤ base w.val := by
  revert w w'; decide
theorem seg_le (w : Fin 6) : base w.val + len w.val ≤ 4096 := by revert w; decide
theorem seg_cover (r : ℕ) (h : r < 4096) : ∃ w : Fin 6, base w.val ≤ r ∧ r < base w.val + len w.val := by
  by_cases h0 : r < 688; · exact ⟨0, Nat.zero_le _, h0⟩
  by_cases h1 : r < 1368; · exact ⟨1, (by omega : 688 ≤ r), h1⟩
  by_cases h2 : r < 2056; · exact ⟨2, (by omega : 1368 ≤ r), h2⟩
  by_cases h3 : r < 2736; · exact ⟨3, (by omega : 2056 ≤ r), h3⟩
  by_cases h4 : r < 3416; · exact ⟨4, (by omega : 2736 ≤ r), h4⟩
  exact ⟨5, (by omega : 3416 ≤ r), h⟩

theorem reg_disjoint (p p' : Dev nD × Fin 6) (h : p ≠ p') : Disjoint (reg p.1 p.2) (reg p'.1 p'.2) := by
  refine Finset.disjoint_left.mpr fun i hi hi' => h ?_
  rw [mem_reg] at hi hi'
  have h1 := seg_le p.2; have h2 := seg_le p'.2
  have ho : p.1 = p'.1 := Fin.ext (by omega)
  refine Prod.ext ho ?_
  by_contra hw
  rw [ho] at hi
  rcases seg_disjoint _ _ hw with h3 | h3 <;> omega
theorem reg_cover : (Finset.univ : Finset (Dev nD × Fin 6)).biUnion (fun p => reg p.1 p.2) = Finset.univ := by
  refine Finset.eq_univ_iff_forall.mpr fun i => ?_
  have hi : (i 0).val < 32768 := (i 0).isLt
  obtain ⟨w, hw⟩ := seg_cover ((i 0).val % 4096) (Nat.mod_lt _ (by decide))
  refine Finset.mem_biUnion.mpr ⟨(⟨(i 0).val / 4096, by change _ < 8; omega⟩, w), Finset.mem_univ _, mem_reg.mpr ?_⟩
  change 4096 * ((i 0).val / 4096) + base w.val ≤ (i 0).val ∧ (i 0).val < 4096 * ((i 0).val / 4096) + base w.val + len w.val
  omega
theorem blk_eq (o : Dev nD) : blk o = (Finset.univ : Finset (Fin 6)).biUnion (fun w => reg o w) := by
  ext i
  rw [mem_blk, Finset.mem_biUnion]
  constructor
  · intro h
    obtain ⟨w, hw⟩ := seg_cover ((i 0).val - 4096 * o.val) (by omega)
    exact ⟨w, Finset.mem_univ _, mem_reg.mpr (by omega)⟩
  · rintro ⟨w, -, h⟩
    rw [mem_reg] at h
    have := seg_le w
    omega
theorem xreg_disjoint (w w' : Fin 6) (h : w ≠ w') : Disjoint (xreg w) (xreg w') := by
  refine Finset.disjoint_left.mpr fun i hi hi' => ?_
  rw [mem_xreg] at hi hi'
  rcases seg_disjoint _ _ h with h3 | h3 <;> omega
theorem xreg_cover : (Finset.univ : Finset (Fin 6)).biUnion (fun w => xreg w) = Finset.univ := by
  refine Finset.eq_univ_iff_forall.mpr fun i => ?_
  obtain ⟨w, hw⟩ := seg_cover (i 0).val (i 0).isLt
  exact Finset.mem_biUnion.mpr ⟨w, Finset.mem_univ _, mem_xreg.mpr hw⟩

/-! ## The gathered array -/

variable (m : (ℓ : Loc nD τ sig) → Buf (Elt F) ℓ)

/-- Every device's rows, in device order. -/
def gath : S32768x1024.Idx → Elt F .f32 := fun i =>
  (show S4096x1024.Idx → Elt F .f32 from m ((Dev.tc (⟨(i 0).val / 4096, by have h : (i 0).val < 32768 := (i 0).isLt; change _ < 8; omega⟩ : Dev nD) : Thread nD τ).loc main_arg0))
    (Shape.pair ⟨(i 0).val % 4096, Nat.mod_lt _ (by decide)⟩ (i 1))

/-- A row of device `c`, at its place in the gathered array. -/
theorem gath_at (c : Dev nD) (j : S4096x1024.Idx) (i : S32768x1024.Idx) (h0 : (i 0).val = 4096 * c.val + (j 0).val) (h1 : (i 1).val = (j 1).val) :
    gath m i = (show S4096x1024.Idx → Elt F .f32 from m ((Dev.tc c : Thread nD τ).loc main_arg0)) j := by
  have hj : (j 0).val < 4096 := (j 0).isLt
  have hd : (⟨(i 0).val / 4096, by have h : (i 0).val < 32768 := (i 0).isLt; change _ < 8; omega⟩ : Dev nD) = c := Fin.ext (by change (i 0).val / 4096 = c.val; omega)
  have hp : (Shape.pair ⟨(i 0).val % 4096, Nat.mod_lt _ (by decide)⟩ (i 1) : S4096x1024.Idx) = j := by
    funext a
    rcases a with ⟨_ | _ | a, ha⟩
    · exact Fin.ext (by change (i 0).val % 4096 = (j 0).val; omega)
    · exact Fin.ext h1
    · exact absurd ha (by change ¬ a + 2 < 2; omega)
  unfold gath
  rw [hd, hp]

/-- A first-hop copy writes the sender's rows where the gathered array has them. -/
theorem first_landed (c : Dev nD) (w : Fin 6) (off : Fin 2 → ℕ) (h : ∀ a, off a + (![len w.val, 1024] : Fin 2 → ℕ) a ≤ S32768x1024.size a)
    (hoff : off = ![4096 * c.val + base w.val, 0]) (fd : S32768x1024.Idx → Elt F .f32) :
    ∀ i ∈ reg c w, (oSeg w.val off h).view.write (Elt F) fd ((xSeg w).view.read (Elt F) (m ((Dev.tc c : Thread nD τ).loc main_arg0))) Finset.univ i = gath m i := by
  subst hoff
  intro i hi
  obtain ⟨x, hx⟩ := View.exists_of_mem_set_slice (v := View.whole main_v1) (r := Rect.unit (s := S32768x1024) ![4096 * c.val + base w.val, 0] ![len w.val, 1024] h)
    (i := i) (by rw [View.set_slice_whole]; exact hi)
  subst hx
  refine (View.write_emb_of_mem (v := (oSeg w.val ![4096 * c.val + base w.val, 0] h).view) fd _ (Finset.mem_univ x)).trans ?_
  refine (gath_at m c ((xSeg w).view.emb x) _ ?_ ?_).symm
  · change 4096 * c.val + base w.val + 1 * (x 0).val = 4096 * c.val + (base w.val + 1 * (x 0).val); omega
  · rfl

/-- So does the local copy. -/
theorem local_landed (c : Dev nD) (fd : S32768x1024.Idx → Elt F .f32) :
    ∀ i ∈ blk c, (ownBlk c).view.write (Elt F) fd (xM.view.read (Elt F) (m ((Dev.tc c : Thread nD τ).loc main_arg0))) Finset.univ i = gath m i := by
  intro i hi
  obtain ⟨x, hx⟩ := View.exists_of_mem_set_slice (v := View.whole main_v1) (r := Rect.unit (s := S32768x1024) (k0_off1 c) S4096x1024.size (k0_off1_inb c))
    (i := i) (by rw [View.set_slice_whole]; exact hi)
  subst hx
  refine (View.write_emb_of_mem (v := (ownBlk c).view) fd _ (Finset.mem_univ x)).trans ?_
  refine (gath_at m c x _ ?_ ?_).symm
  · have h : k0_off1 c 0 = 4096 * c.val := congrFun (off1_eq c) 0
    change k0_off1 c 0 + 1 * (x 0).val = 4096 * c.val + (x 0).val; omega
  · have h : k0_off1 c 1 = 0 := congrFun (off1_eq c) 1
    change k0_off1 c 1 + 1 * (x 1).val = (x 1).val; omega

/-- A later copy writes what the gathered array has there into the same rows. -/
theorem later_landed (o : Dev nD) (w : Fin 6) (off : Fin 2 → ℕ) (h : ∀ a, off a + (![len w.val, 1024] : Fin 2 → ℕ) a ≤ S32768x1024.size a)
    (hoff : off = ![4096 * o.val + base w.val, 0]) (fd : S32768x1024.Idx → Elt F .f32) :
    ∀ i ∈ reg o w, (oSeg w.val off h).view.write (Elt F) fd ((oSeg w.val off h).view.read (Elt F) (gath m)) Finset.univ i = gath m i := by
  subst hoff
  intro i hi
  obtain ⟨x, hx⟩ := View.exists_of_mem_set_slice (v := View.whole main_v1) (r := Rect.unit (s := S32768x1024) ![4096 * o.val + base w.val, 0] ![len w.val, 1024] h)
    (i := i) (by rw [View.set_slice_whole]; exact hi)
  subst hx
  exact View.write_emb_of_mem (v := (oSeg w.val ![4096 * o.val + base w.val, 0] h).view) fd _ (Finset.mem_univ x)

/-! ## The sets the memrefs name -/

theorem oSeg_set (o : Dev nD) (w : Fin 6) (off : Fin 2 → ℕ) (h : ∀ a, off a + (![len w.val, 1024] : Fin 2 → ℕ) a ≤ S32768x1024.size a)
    (hoff : off = ![4096 * o.val + base w.val, 0]) : (oSeg w.val off h).view.set = reg o w := by
  subst hoff; exact View.set_slice_whole main_v1 _
theorem xSeg_set (w : Fin 6) : (xSeg w).view.set = xreg w := View.set_slice_whole main_arg0 _
theorem ownBlk_set (c : Dev nD) : (ownBlk c).view.set = blk c := View.set_slice_whole main_v1 _

/-! ## What a copy is counted by -/

/-- The credit of one segment, and of the block. -/
def cr (w : Fin 6) : ℕ := (xSeg w).view.dmaCredit
def crL : ℕ := xM.view.dmaCredit
theorem seg_numel (w : Fin 6) : 0 < (segShape w.val).numel := by revert w; decide +kernel
theorem cr_pos (w : Fin 6) : 0 < cr w := View.dmaCredit_pos _ (seg_numel w)
theorem crL_pos : 0 < crL := View.dmaCredit_pos _ (by decide +kernel)
theorem oSeg_credit (w : Fin 6) (off : Fin 2 → ℕ) (h : ∀ a, off a + (![len w.val, 1024] : Fin 2 → ℕ) a ≤ S32768x1024.size a) :
    (oSeg w.val off h).view.dmaCredit = cr w := rfl
theorem ownBlk_credit (c : Dev nD) : (ownBlk c).view.dmaCredit = crL := rfl

end Cert.KernelIdealProof

end
-- ==== Proof.Proto.lean ====
module

public import proofs.«01_k».proof.Proof.Geo
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

/-! # The protocol: cells, payloads, debts, levels

Each device has a barrier cell its three neighbours pay once each, a cell for its local copy, and a send cell and a
receive cell for each of its 42 copies; all of them have one round. A neighbour's signal hands over the regions it is to
be sent into; a receive cell hands over the region landed, showing the gathered array; a send cell gives the source
back. -/

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The cells -/

abbrev barCell (c : Dev nD) : GSem nD τ sig := ((c : Thread nD τ), .reg bS)
abbrev locCell (c : Dev nD) : GSem nD τ sig := ((c : Thread nD τ), .dma lS)
abbrev sendCell (c : Dev nD) (e : Fin 42) : GSem nD τ sig := ((c : Thread nD τ), .dma (sS e))
abbrev recvCell (c : Dev nD) (e : Fin 42) : GSem nD τ sig := ((c : Thread nD τ), .dma (rS e))

/-- The copy a semaphore's place in its array belongs to. -/
def eOf (n : ℕ) : Fin 42 := ⟨(6 * (n % 14 / 2) + 2 * (n / 14) + n % 2) % 42, Nat.mod_lt _ (by decide)⟩
/-- Of the DMA semaphores, 0 is the local copy's, 1 to 42 count sends and 43 to 84 receipts. -/
abbrev eq_ (q : ℕ) : Fin 42 := eOf ((q - 1) % 42)

theorem sS_at (e : Fin 42) : (sS e).val ≠ 0 ∧ (sS e).val < 43 ∧ eq_ (sS e).val = e := by revert e; decide +kernel
theorem rS_at (e : Fin 42) : (rS e).val ≠ 0 ∧ ¬ (rS e).val < 43 ∧ eq_ (rS e).val = e := by revert e; decide +kernel
theorem lS_at : lS.val = 0 := by decide +kernel

theorem sS_inj {e e' : Fin 42} (h : sS e = sS e') : e = e' := by rw [← (sS_at e).2.2, h, (sS_at e').2.2]
theorem rS_inj {e e' : Fin 42} (h : rS e = rS e') : e = e' := by rw [← (rS_at e).2.2, h, (rS_at e').2.2]
theorem sS_ne_rS (e e' : Fin 42) : sS e ≠ rS e' := fun h => (rS_at e').2.1 (h ▸ (sS_at e).2.1)

/-! ## What is handed over -/

/-- Segment `w` of block `o` of device `c`'s result, at contents `f`. -/
def outPts (c o : Dev nD) (w : Fin 6) (f : S32768x1024.Idx → Elt F .f32) : sProp 𝕄 :=
  ((c : Thread nD τ).loc main_v1) ↦[reg o w]{fullShare} f
/-- A half share of segment `w` of device `c`'s `x`. -/
def xPts (c : Dev nD) (w : Fin 6) : sProp 𝕄 :=
  ((c : Thread nD τ).loc main_arg0) ↦[xreg w]{fullShare.right} m ((c : Thread nD τ).loc main_arg0)
/-- The other half share of device `c`'s `x`, whole, and its own block of the result. -/
def xL (c : Dev nD) : sProp 𝕄 := ((c : Thread nD τ).loc main_arg0) ↦{fullShare.left} m ((c : Thread nD τ).loc main_arg0)
def blkPts (c : Dev nD) (f : S32768x1024.Idx → Elt F .f32) : sProp 𝕄 := ((c : Thread nD τ).loc main_v1) ↦[blk c]{fullShare} f

omit [FloatOps F] in
instance outPts_storable (c o : Dev nD) (w : Fin 6) (f) : BI.Storable (upEmb : UEmb _ 𝕄) (outPts (F := F) c o w f) := by unfold outPts; infer_instance
omit [FloatOps F] in
instance xPts_storable (c : Dev nD) (w : Fin 6) : BI.Storable (upEmb : UEmb _ 𝕄) (xPts (F := F) m c w) := by unfold xPts; infer_instance
omit [FloatOps F] in
instance xL_storable (c : Dev nD) : BI.Storable (upEmb : UEmb _ 𝕄) (xL (F := F) m c) := by unfold xL; infer_instance
omit [FloatOps F] in
instance blkPts_storable (c : Dev nD) (f) : BI.Storable (upEmb : UEmb _ 𝕄) (blkPts (F := F) c f) := by unfold blkPts; infer_instance

/-- Along axis `a`: every region device `c` is to write on that neighbour. -/
def barPay (c : Dev nD) (a : Fin 3) : sProp 𝕄 :=
  bigSep (Finset.univ.filter fun e : Fin 42 => axis e = a) fun e => iprop(∃ f, outPts (prt e c) (so e c) (wk e) f)
def recvPay (c : Dev nD) (e : Fin 42) : sProp 𝕄 := outPts c (org e c) (wk e) (gath m)
def sendPay (c : Dev nD) (e : Fin 42) : sProp 𝕄 := if e.val < 6 then xPts m c (wk e) else outPts c (so e c) (wk e) (gath m)
def locPay (c : Dev nD) : sProp 𝕄 := iprop(blkPts c (gath m) ∗ xL m c)

omit [FloatOps F] in
instance barPay_storable (c : Dev nD) (a : Fin 3) : BI.Storable (upEmb : UEmb _ 𝕄) (barPay (F := F) c a) := by unfold barPay; infer_instance
omit [FloatOps F] in
instance recvPay_storable (c : Dev nD) (e : Fin 42) : BI.Storable (upEmb : UEmb _ 𝕄) (recvPay (F := F) m c e) := by unfold recvPay; infer_instance
omit [FloatOps F] in
instance sendPay_storable (c : Dev nD) (e : Fin 42) : BI.Storable (upEmb : UEmb _ 𝕄) (sendPay (F := F) m c e) := by
  unfold sendPay; split <;> infer_instance
omit [FloatOps F] in
instance locPay_storable (c : Dev nD) : BI.Storable (upEmb : UEmb _ 𝕄) (locPay (F := F) m c) := by unfold locPay; infer_instance

/-- One round: the barrier's three duties of one unit, each other cell's one duty of its copy's credit. -/
def sched : Rounds.Schedule (GSem nD τ sig) (Fin 3) 𝕄 where
  duties g r := if r = 0 then (match g.2 with | .reg _ => Finset.univ | .dma _ => {0}) else ∅
  unitless _ := False
  amount g _ _ := match g.2 with | .reg _ => 1 | .dma q => if q.val = 0 then crL else cr (wk (eq_ q.val))
  payload g _ d := match g.2 with
    | .reg _ => barPay g.1.1 d
    | .dma q => if q.val = 0 then locPay m g.1.1 else if q.val < 43 then sendPay m g.1.1 (eq_ q.val) else recvPay m g.1.1 (eq_ q.val)
  amount_pos g _ _ _ := by
    rcases g with ⟨t, s | q⟩
    · exact Nat.one_pos
    · dsimp only; split
      · exact crL_pos
      · exact cr_pos _

instance sched_storable (g : GSem nD τ sig) (r : ℕ) (d : Fin 3) :
    BI.Storable (upEmb : UEmb _ 𝕄) ((sched (F := F) m).payload g r d) := by
  rcases g with ⟨t, s | q⟩
  · dsimp only [sched]; infer_instance
  · dsimp only [sched]
    split
    · infer_instance
    · split <;> infer_instance

section Sched
variable (c : Dev nD) (e : Fin 42)

omit [FloatOps F] in
theorem duties_bar : (sched (F := F) m).duties (barCell c) 0 = Finset.univ := rfl
omit [FloatOps F] in
theorem duties_dma (t : Thread nD τ) (q : DmaSem sig) : (sched (F := F) m).duties (t, .dma q) 0 = {0} := rfl
omit [FloatOps F] in
theorem duties_later (g : GSem nD τ sig) : ∀ r, 1 ≤ r → (sched (F := F) m).duties g r = ∅ :=
  fun r hr => if_neg (by omega)

omit [FloatOps F] in
theorem amount_bar (d : Fin 3) : (sched (F := F) m).amount (barCell c) 0 d = 1 := rfl
omit [FloatOps F] in
theorem amount_loc : (sched (F := F) m).amount (locCell c) 0 0 = crL := show (if lS.val = 0 then crL else cr (wk (eq_ lS.val))) = crL from if_pos lS_at
omit [FloatOps F] in
theorem amount_send : (sched (F := F) m).amount (sendCell c e) 0 0 = cr (wk e) :=
  (if_neg (sS_at e).1).trans (by rw [(sS_at e).2.2])
omit [FloatOps F] in
theorem amount_recv : (sched (F := F) m).amount (recvCell c e) 0 0 = cr (wk e) :=
  (if_neg (rS_at e).1).trans (by rw [(rS_at e).2.2])

omit [FloatOps F] in
theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_dma (t : Thread nD τ) (q : DmaSem sig) : (sched (F := F) m).expect (t, .dma q) 0 = (sched (F := F) m).amount (t, .dma q) 0 0 := by
  unfold Schedule.expect Schedule.amountOf; rw [duties_dma, Finset.sum_singleton]

omit [FloatOps F] in
theorem payload_bar (a : Fin 3) : (sched (F := F) m).payload (barCell c) 0 a = barPay c a := rfl
omit [FloatOps F] in
theorem payload_loc : (sched (F := F) m).payload (locCell c) 0 0 = locPay m c :=
  show (if lS.val = 0 then locPay m c else if lS.val < 43 then sendPay m c (eq_ lS.val) else recvPay m c (eq_ lS.val)) = locPay m c from if_pos lS_at
omit [FloatOps F] in
theorem payload_send : (sched (F := F) m).payload (sendCell c e) 0 0 = sendPay m c e :=
  (if_neg (sS_at e).1).trans ((if_pos (sS_at e).2.1).trans (by rw [(sS_at e).2.2]))
omit [FloatOps F] in
theorem payload_recv : (sched (F := F) m).payload (recvCell c e) 0 0 = recvPay m c e :=
  (if_neg (rS_at e).1).trans ((if_neg (rS_at e).2.1).trans (by rw [(rS_at e).2.2]))

omit [FloatOps F] in
/-- The whole round of a cell with one duty. -/
theorem rest_dma (t : Thread nD τ) (q : DmaSem sig) :
    bigSep ((sched (F := F) m).duties (t, .dma q) 0 \ ∅) (fun d => (sched (F := F) m).payload (t, .dma q) 0 d) = (sched (F := F) m).payload (t, .dma q) 0 0 := by
  rw [Finset.sdiff_empty, duties_dma, bigSep_singleton]

end Sched

omit [FloatOps F] in
/-- What belongs to the copies, sorted by axis. -/
theorem by_axis (Φ : Fin 42 → sProp 𝕄) :
    bigSep Finset.univ (fun a : Fin 3 => bigSep (Finset.univ.filter fun e : Fin 42 => axis e = a) Φ) = bigSep Finset.univ Φ := by
  rw [bigSep_congr fun (a : Fin 3) _ => bigSep_filter Finset.univ (fun e : Fin 42 => axis e = a) Φ, bigSep_univ_comm]
  refine bigSep_congr fun e _ => ?_
  rw [← bigSep_filter Finset.univ (fun a => axis e = a) (fun _ => Φ e), Finset.filter_eq, if_pos (Finset.mem_univ _), bigSep_singleton]

omit [FloatOps F] in
/-- The whole round of the barrier: every region the device is to write. -/
theorem rest_bar (c : Dev nD) : bigSep ((sched (F := F) m).duties (barCell c) 0 \ ∅) (fun d => (sched (F := F) m).payload (barCell c) 0 d)
    = bigSep Finset.univ fun e => iprop(∃ f, outPts (prt e c) (so e c) (wk e) f) := by
  rw [Finset.sdiff_empty, duties_bar]
  exact by_axis _

omit [FloatOps F] in
/-- A device's own regions to be written along axis `a` are what it hands that neighbour. -/
theorem barPay_nb (c : Dev nD) (a : Fin 3) (f : S32768x1024.Idx → Elt F .f32) :
    (bigSep (Finset.univ.filter fun e : Fin 42 => axis e = a) fun e => (outPts c (org e c) (wk e) f : sProp 𝕄)) ⊢ barPay (nb a c) a := by
  unfold barPay
  refine bigSep_mono fun e he => ?_
  have ha : axis e = a := (Finset.mem_filter.mp he).2
  subst ha
  rw [show prt e (nb (axis e) c) = c from prt_prt e c, show so e (nb (axis e) c) = org e c from so_prt e c]
  show (outPts c (org e c) (wk e) f : sProp 𝕄) ⊢ iprop(∃ f, outPts c (org e c) (wk e) f)
  iintro H; iexists f; iexact H

/-! ## The debts -/

/-- What device `c` owes for its last `n` copies. -/
def owed (c : Dev nD) : ℕ → CellTallies nD τ sig Unit
  | 0 => 0
  | n + 1 => owed c n + tallyAt (recvCell (prt ⟨41 - n, by omega⟩ c) ⟨41 - n, by omega⟩) () (cr (wk ⟨41 - n, by omega⟩))

/-- At launch: all copies, and a unit to each neighbour's barrier. -/
def O₂ (c : Dev nD) : CellTallies nD τ sig Unit := owed c 42 + tallyAt (barCell (nb 2 c)) () 1
def O₁ (c : Dev nD) : CellTallies nD τ sig Unit := O₂ c + tallyAt (barCell (nb 1 c)) () 1
def O₀ (c : Dev nD) : CellTallies nD τ sig Unit := O₁ c + tallyAt (barCell (nb 0 c)) () 1

def L (g : GSem nD τ sig) : Finset Unit := if g.1.2 = .tc then {()} else ∅
/-- Barriers at 1, a receipt at 2 and its hop, the rest at 0. -/
def lv (g : GSem nD τ sig) (_ : Unit) : ℕ := match g.2 with | .reg _ => 1 | .dma q => if q.val < 43 then 0 else 2 + (eq_ q.val).val / 6

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (e : Fin 42) : lv (recvCell c e) () = 2 + e.val / 6 :=
  (if_neg (rS_at e).2.1).trans (by rw [(rS_at e).2.2])

theorem recv_eq_iff {a b : Dev nD} {e e' : Fin 42} : Iff (recvCell a e = recvCell b e') (a = b ∧ e = e') :=
  ⟨fun h => ⟨Fin.ext (congrArg (fun g : GSem nD τ sig => g.1.1.val) h), rS_inj (SemLoc.dma.inj (congrArg Prod.snd h))⟩, fun h => by rw [h.1, h.2]⟩
theorem bar_eq_iff {a b : Dev nD} : Iff (barCell a = barCell b) (a = b) :=
  ⟨fun h => Fin.ext (congrArg (fun g : GSem nD τ sig => g.1.1.val) h), fun h => h ▸ rfl⟩
theorem recv_ne_bar (a b : Dev nD) (e : Fin 42) : recvCell a e ≠ barCell b := fun h => by have := congrArg Prod.snd h; cases this

/-- Each copy's debt, spelt out. -/
theorem owed_recv (d c : Dev nD) (e : Fin 42) : ∀ n, n ≤ 42 →
    owed d n (recvCell c e) () = if 42 ≤ e.val + n ∧ d = prt e c then cr (wk e) else 0
  | 0, _ => by
    rw [if_neg (by have := e.isLt; omega)]; rfl
  | n + 1, hn => by
    rw [owed, Pi.add_apply, Finsupp.add_apply, owed_recv d c e n (by omega), tallyAt_apply]
    obtain ⟨e₀, he₀⟩ : ∃ e₀ : Fin 42, e₀ = ⟨41 - n, by omega⟩ := ⟨_, rfl⟩
    have hv : e₀.val = 41 - n := congrArg Fin.val he₀
    rw [← he₀]
    by_cases he : e = e₀
    · subst he
      rw [if_neg (by omega), Nat.zero_add]
      refine if_congr ?_ rfl rfl
      constructor
      · rintro ⟨h, -⟩
        exact ⟨by omega, by rw [(recv_eq_iff.mp h).1, prt_prt]⟩
      · rintro ⟨-, h⟩
        exact ⟨by rw [h, prt_prt], rfl⟩
    · have hne : e.val ≠ 41 - n := fun h => he (Fin.ext (h.trans hv.symm))
      rw [if_neg (c := recvCell c e = _ ∧ _) (fun h => he (recv_eq_iff.mp h.1).2), Nat.add_zero]
      refine if_congr ?_ rfl rfl
      constructor <;> rintro ⟨h, h'⟩ <;> exact ⟨by omega, h'⟩

theorem owed_pos {d : Dev nD} {n : ℕ} {g : GSem nD τ sig} {u : Unit} (hn : n ≤ 42) (h : 0 < owed d n g u) :
    ∃ e : Fin 42, 42 ≤ e.val + n ∧ g = recvCell (prt e d) e := by
  induction n with
  | zero => exact absurd h (Nat.lt_irrefl 0)
  | succ n ih =>
    rw [owed, Pi.add_apply, Finsupp.add_apply, tallyAt_apply] at h
    by_cases hg : g = recvCell (prt ⟨41 - n, by omega⟩ d) ⟨41 - n, by omega⟩
    · exact ⟨⟨41 - n, by omega⟩, by dsimp only; omega, hg⟩
    · rw [if_neg (fun h' => hg h'.1), Nat.add_zero] at h
      obtain ⟨e, he, hg⟩ := ih (by omega) h
      exact ⟨e, by omega, hg⟩

theorem owed_bar (d c : Dev nD) (n : ℕ) (hn : n ≤ 42) : owed d n (barCell c) () = 0 := by
  by_contra h
  obtain ⟨e, -, hg⟩ := owed_pos hn (Nat.pos_of_ne_zero h)
  exact recv_ne_bar _ _ _ hg.symm

/-! ## The waits -/

omit [FloatOps F] in
/-- A wait below every receipt still owed is allowed. -/
theorem mayWait (c : Dev nD) (sm : SemLoc sig) (n : ℕ) (hn : n ≤ 42) (b : ℕ) (hb : lv ((c : Thread nD τ), sm) () ≤ b)
    (h : ∀ e : Fin 42, 42 ≤ e.val + n → b < 2 + e.val / 6) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by obtain ⟨e, -, rfl⟩ := owed_pos hn hg; rw [L_tc]; exact Finset.mem_singleton_self _)
    (fun p hp => by rw [Finset.mem_singleton.mp hp]; exact hb)
    (fun g u hg => by obtain ⟨e, he, rfl⟩ := owed_pos hn hg; rw [lv_recv]; exact h e he)

omit [FloatOps F] in
theorem mayWait_bar (c : Dev nD) : (levAts L lv : sProp 𝕄) ⊢ MayWait (c : Thread nD τ) (.reg bS) () (owed c 42) :=
  mayWait c (.reg bS) 42 le_rfl 1 le_rfl (fun e _ => by omega)

omit [FloatOps F] in
/-- Before copy `e` a device waits for the copy a hop earlier, owing copies `e` and on. -/
theorem mayWait_recv (c : Dev nD) (e : Fin 42) (h : 6 ≤ e.val) :
    (levAts L lv : sProp 𝕄) ⊢ MayWait (c : Thread nD τ) (.dma (rS (prev e))) () (owed c (42 - e.val)) :=
  mayWait c (.dma (rS (prev e))) (42 - e.val) (by omega) (2 + (prev e).val / 6) (by rw [lv_recv]) (fun e' he' => by
    have := e.isLt; simp only [prev]; omega)

/-! ## The buffers in pieces -/

omit [FloatOps F] in
theorem out_split (c : Dev nD) (f : S32768x1024.Idx → Elt F .f32) :
    ((((c : Thread nD τ).loc main_v1) ↦{fullShare} f) : sProp 𝕄) = iprop(blkPts c f ∗ bigSep Finset.univ fun e : Fin 42 => outPts c (org e c) (wk e) f) := by
  have hall : ((((c : Thread nD τ).loc main_v1) ↦{fullShare} f) : sProp 𝕄) = bigSep Finset.univ fun p : Dev nD × Fin 6 => outPts c p.1 p.2 f := by
    unfold outPts
    rw [← pointsTo_biUnion (ℓ := (c : Thread nD τ).loc main_v1) Finset.univ (fun p : Dev nD × Fin 6 => reg p.1 p.2) (fun p _ p' _ h => reg_disjoint p p' h), reg_cover]
  have hblk : (blkPts c f : sProp 𝕄) = bigSep Finset.univ fun w : Fin 6 => outPts c c w f := by
    unfold blkPts outPts
    rw [blk_eq, pointsTo_biUnion (ℓ := (c : Thread nD τ).loc main_v1) Finset.univ (fun w : Fin 6 => reg c w)
      (fun w _ w' _ h => reg_disjoint (c, w) (c, w') (fun h' => h (congrArg Prod.snd h')))]
  have h1 : (Finset.univ.filter fun p : Dev nD × Fin 6 => p.1 = c) = Finset.univ.image fun w : Fin 6 => (c, w) := by
    ext p; simp only [Finset.mem_filter, Finset.mem_univ, true_and, Finset.mem_image]
    constructor
    · intro h; exact ⟨p.2, by rw [← h]⟩
    · rintro ⟨w, rfl⟩; rfl
  have h2 : (Finset.univ.filter fun p : Dev nD × Fin 6 => ¬ p.1 = c) = Finset.univ.image fun e : Fin 42 => (org e c, wk e) := by
    ext p; simp only [Finset.mem_filter, Finset.mem_univ, true_and, Finset.mem_image]
    constructor
    · intro h; obtain ⟨e, h1, h2⟩ := org_surj c p.1 p.2 h; exact ⟨e, by rw [h1, h2]⟩
    · rintro ⟨e, rfl⟩; exact org_ne e c
  rw [hall, hblk, bigSep_filter_split Finset.univ (fun p : Dev nD × Fin 6 => p.1 = c), h1, h2,
    bigSep_image_of_injOn (fun w _ w' _ h => congrArg Prod.snd h), bigSep_image_of_injOn (fun e _ e' _ h => org_inj c e e' (congrArg Prod.fst h) (congrArg Prod.snd h))]
  rfl

omit [FloatOps F] in
theorem x_split (c : Dev nD) :
    ((((c : Thread nD τ).loc main_arg0) ↦{fullShare} m ((c : Thread nD τ).loc main_arg0)) : sProp 𝕄) ⊣⊢ iprop(xL m c ∗ bigSep Finset.univ fun w : Fin 6 => xPts m c w) := by
  have hw : (bigSep Finset.univ fun w : Fin 6 => (xPts m c w : sProp 𝕄))
      = (((c : Thread nD τ).loc main_arg0) ↦{fullShare.right} m ((c : Thread nD τ).loc main_arg0)) := by
    unfold xPts
    rw [← pointsTo_biUnion (ℓ := (c : Thread nD τ).loc main_arg0) Finset.univ (fun w : Fin 6 => xreg w) (fun w _ w' _ h => xreg_disjoint w w' h), xreg_cover]
  rw [hw]
  unfold xL
  exact pointsTo_share (by rw [PosShare.left_op_right]; exact Part.mem_some _)

end Cert.KernelIdealProof

end
-- ==== Proof.Body.lean ====
module

public import proofs.«01_k».proof.Proof.Proto

@[expose] public section

noncomputable section

/-! # The body of the kernel

One device's run: the barrier, the local copy, then each loop carried through by its invariant, one round of the loop at
a time. -/

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device shares -/

/-- A device's own cells: the local copy's, the sends', the receipts'; and all of them: the barrier's first. -/
abbrev Kid : Type := Unit ⊕ (Fin 42 ⊕ Fin 42)
abbrev Cid : Type := Unit ⊕ Kid
abbrev osem : Kid → SemLoc sig
  | .inl _ => .dma lS
  | .inr (.inl e) => .dma (sS e)
  | .inr (.inr e) => .dma (rS e)
abbrev csem : Cid → SemLoc sig
  | .inl _ => .reg bS
  | .inr k => osem k
abbrev kcell (ck : Dev nD × Cid) : GSem nD τ sig := ((ck.1 : Thread nD τ), csem ck.2)
abbrev iB : Cid := .inl ()
abbrev iL : Cid := .inr (.inl ())
abbrev iS (e : Fin 42) : Cid := .inr (.inr (.inl e))
abbrev iR (e : Fin 42) : Cid := .inr (.inr (.inr e))

/-- Every cell's invariant, at its name, and that its one round is open; with the levels. -/
def records (K : Dev nD × Cid → ℕ) : sProp 𝕄 :=
  iprop((bigSep Finset.univ fun ck : Dev nD × Cid => cellInv ER (sched m) (K ck) (kcell ck))
    ∗ bigSep Finset.univ fun ck : Dev nD × Cid => reached ER (kcell ck) 0)
instance records_persistent (K : Dev nD × Cid → ℕ) : BI.Persistent (records m K) := by unfold records; infer_instance

omit [FloatOps F] in
theorem inv_at (K : Dev nD × Cid → ℕ) (ck : Dev nD × Cid) : records m K ⊢ cellInv ER (sched m) (K ck) (kcell ck) :=
  sep_elim_left.trans (bigSep_elim (Φ := fun ck : Dev nD × Cid => (cellInv ER (sched m) (K ck) (kcell ck) : sProp 𝕄)) (Finset.mem_univ ck))
omit [FloatOps F] in
theorem reached_at (K : Dev nD × Cid → ℕ) (ck : Dev nD × Cid) : records m K ⊢ reached ER (kcell ck) 0 :=
  sep_elim_right.trans (bigSep_elim (Φ := fun ck : Dev nD × Cid => (reached ER (kcell ck) 0 : sProp 𝕄)) (Finset.mem_univ ck))

/-! ## The copies done and the copies to come -/

def Ge (t : ℕ) : Finset (Fin 42) := Finset.univ.filter fun e => t ≤ e.val
def Lt (t : ℕ) : Finset (Fin 42) := Finset.univ.filter fun e => e.val < t

theorem Ge_zero : Ge 0 = Finset.univ := by decide
theorem Lt_zero : Lt 0 = ∅ := by decide
theorem Ge_last : Ge 42 = ∅ := by decide
theorem Lt_last : Lt 42 = Finset.univ := by decide

omit [FloatOps F] in
theorem bigSep_ge (e : Fin 42) (Φ : Fin 42 → sProp 𝕄) : bigSep (Ge e.val) Φ = iprop(Φ e ∗ bigSep (Ge (e.val + 1)) Φ) := by
  have h : Ge e.val = insert e (Ge (e.val + 1)) := by
    ext x; simp only [Ge, Finset.mem_filter, Finset.mem_univ, true_and, Finset.mem_insert, Fin.ext_iff]; omega
  rw [h, bigSep_insert (by simp only [Ge, Finset.mem_filter, Finset.mem_univ, true_and]; omega)]
  rfl
omit [FloatOps F] in
theorem bigSep_lt (e : Fin 42) (Φ : Fin 42 → sProp 𝕄) : bigSep (Lt (e.val + 1)) Φ = iprop(Φ e ∗ bigSep (Lt e.val) Φ) := by
  have h : Lt (e.val + 1) = insert e (Lt e.val) := by
    ext x; simp only [Lt, Finset.mem_filter, Finset.mem_univ, true_and, Finset.mem_insert, Fin.ext_iff]; omega
  rw [h, bigSep_insert (by simp only [Lt, Finset.mem_filter, Finset.mem_univ, true_and]; omega)]
  rfl

/-! ## One operation -/

abbrev wpc (c : Dev nD) (p : Prog (EffT F) PUnit) (Q : PUnit → sProp 𝕄) : sProp 𝕄 :=
  wp frame (wpE (defs₀ (F := F)) 𝒱₀ (c : Thread nD τ) none) Set.univ p Q

theorem recv_wp (K : Dev nD × Cid → ℕ) (c : Dev nD) (e : Fin 42) (O : CellTallies nD τ sig Unit) (W : Waits sig Unit) :
    iprop(records m K ∗ (atPos ER (recvCell c e) 0 ∅ 0 ∗ cred (tallyAt (recvCell c e) () (cr (wk e)))) ∗ owes (c : Thread nD τ) O W
        ∗ MayWait (c : Thread nD τ) (.dma (rS e)) () O)
      ⊢ wpc c (recvOp c e) (fun _ => iprop(semVal (recvCell c e) 0 ∗ recvPay m c e ∗ ∃ W, owes (c : Thread nD τ) O W)) := by
  unfold recvOp
  have hcr : (arrSeg c e).view.dmaCredit = cr (wk e) := oSeg_credit (wk e) _ _
  rw [← hcr]
  iintro ⟨#HR, ⟨Hat, Hc⟩, HO, HM⟩
  ihave #HI := (inv_at m K (c, iR e)) $$ HR
  iapply (Rounds.wp_wait_rest_token 𝒱₀ ER (sched m) (c : Thread nD τ) none (κ := K (c, iR e))
      (wpE_waitDma2_eq 𝒱₀ (c : Thread nD τ) none Set.univ) (Set.mem_univ _) () (O := O) (W := W) (R := 0) (m := 0) (T := ∅)
      (by rw [Nat.zero_add, expect_dma, amount_recv, hcr])) $$ [Hc HO HM Hat]
  · isplitr; · iexact HI
    isplitl [Hc]; · iexact Hc
    isplitl [HO]; · iexact HO
    isplitl [HM] <;> iassumption
  iintro ⟨HO, Hat, -, Hpay⟩
  ihave Hp := (Entails.of_eq ((rest_dma m (c : Thread nD τ) (rS e)).trans (payload_recv m c e))) $$ Hpay
  imod (Rounds.cell_close ER (sched m) (Set.mem_univ (K (c, iR e))) (fun h => h) (R := 0 + 1) (duties_later m (recvCell c e))) $$ [Hat] with Hz
  · isplitr; · iexact HI
    iexact Hat
  rw [wp_ret]; imodintro
  isplitl [Hz]; · iexact Hz
  isplitl [Hp]; · iexact Hp
  iexists _; iexact HO

theorem sent_wp (K : Dev nD × Cid → ℕ) (c : Dev nD) (e : Fin 42) (W : Waits sig Unit) :
    iprop(records m K ∗ (atPos ER (sendCell c e) 0 ∅ 0 ∗ cred (tallyAt (sendCell c e) () (cr (wk e)))) ∗ owes (c : Thread nD τ) 0 W)
      ⊢ wpc c (sentOp c e) (fun _ => iprop((semVal (sendCell c e) 0 ∗ sendPay m c e) ∗ ∃ W, owes (c : Thread nD τ) 0 W)) := by
  unfold sentOp
  have hcr : (xSeg (wk e)).view.dmaCredit = cr (wk e) := rfl
  rw [← hcr]
  iintro ⟨#HR, ⟨Hat, Hc⟩, HO⟩
  ihave #HI := (inv_at m K (c, iS e)) $$ HR
  iapply (Rounds.wp_wait_rest_token 𝒱₀ ER (sched m) (c : Thread nD τ) none (κ := K (c, iS e))
      (wpE_waitDma2_eq 𝒱₀ (c : Thread nD τ) none Set.univ) (Set.mem_univ _) () (O := 0) (W := W) (R := 0) (m := 0) (T := ∅)
      (by rw [Nat.zero_add, expect_dma, amount_send, hcr])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_dma m (c : Thread nD τ) (sS e)).trans (payload_send m c e))) $$ Hpay
  imod (Rounds.cell_close ER (sched m) (Set.mem_univ (K (c, iS e))) (fun h => h) (R := 0 + 1) (duties_later m (sendCell c e))) $$ [Hat] with Hz
  · isplitr; · iexact HI
    iexact Hat
  rw [wp_ret]; imodintro
  isplitl [Hz Hp]
  · isplitl [Hz] <;> iassumption
  iexists _; iexact HO

theorem owed_step (c : Dev nD) (e : Fin 42) :
    owed c (42 - e.val) = owed c (42 - (e.val + 1)) + tallyAt (recvCell (prt e c) e) () (cr (wk e)) := by
  have h : (⟨41 - (41 - e.val), by omega⟩ : Fin 42) = e := Fin.ext (by have := e.isLt; dsimp only; omega)
  rw [show 42 - e.val = (41 - e.val) + 1 by have := e.isLt; omega, owed, h, show 42 - (e.val + 1) = 41 - e.val by omega]

/-- What a copy takes and leaves, whatever it reads: the source it returns is what its send cell gives back. -/
abbrev sendPre (K : Dev nD × Cid → ℕ) (c : Dev nD) (e : Fin 42) (f : S32768x1024.Idx → Elt F .f32) (W : Waits sig Unit) : sProp 𝕄 :=
  iprop(records m K ∗ dutyTok ER (sendCell c e) 0 0 ∗ dutyTok ER (recvCell (prt e c) e) 0 0 ∗ outPts (prt e c) (so e c) (wk e) f
    ∗ sendPay m c e ∗ owes (c : Thread nD τ) (owed c (42 - e.val)) W)
abbrev sendPost (c : Dev nD) (e : Fin 42) (W : Waits sig Unit) : PUnit → sProp 𝕄 :=
  fun _ => iprop(cred (tallyAt (sendCell c e) () (cr (wk e))) ∗ owes (c : Thread nD τ) (owed c (42 - (e.val + 1))) W)

theorem send_first (K : Dev nD × Cid → ℕ) (c : Dev nD) (e : Fin 42) (he : e.val < 6) (f : S32768x1024.Idx → Elt F .f32) (W : Waits sig Unit)
    (n : Dev nD) (hn : n = prt e c) {hsc : (ownSeg c (wk e)).view.ref.isScScratch = false}
    {hsrc : (xSeg (wk e)).view.WordExact} {hdst : (ownSeg c (wk e)).view.WordExact}
    {hsem : DmaTarget.Typed .hbm (.dma (rS e)) (.remote (Dev.tc n : Thread nD τ) (ownSeg c (wk e)) (.dma (sS e)) hsc)} :
    sendPre m K c e f W ⊢ wpc c (.op (.enqueueDma (xSeg (wk e)) (.remote (Dev.tc n : Thread nD τ) (ownSeg c (wk e)) (.dma (sS e)) hsc) (.dma (rS e)) hsrc hdst hsem) .ret)
      (sendPost c e W) := by
  subst hn
  have hset : (ownSeg c (wk e)).view.set = reg c (wk e) := oSeg_set c (wk e) _ _ (ownOff_eq c (wk e))
  have hx : (sendPay m c e : sProp 𝕄) = ((xSeg (wk e)).view.loc (c : Thread nD τ) ↦[(xSeg (wk e)).view.set]{fullShare.right} m ((c : Thread nD τ).loc main_arg0)) := by
    unfold sendPay; rw [if_pos he, xSeg_set]; rfl
  have ho : (outPts (prt e c) (so e c) (wk e) f : sProp 𝕄) = ((ownSeg c (wk e)).view.loc (prt e c : Thread nD τ) ↦[(ownSeg c (wk e)).view.set]{fullShare} f) := by
    rw [so_first e c he, hset]; rfl
  have hcr : (ownSeg c (wk e)).view.amount (.dma (rS e)) = cr (wk e) := rfl
  unfold sendPre
  rw [hx, ho]
  iintro ⟨#HR, Ht1, Ht2, Ho, Hx, HO⟩
  iapply (Rounds.wp_send_pointsTo 𝒱₀ ER (sched m) (c : Thread nD τ) none (κ₁ := K (c, iS e)) (κ₂ := K (prt e c, iR e))
    (c' := (prt e c : Thread nD τ)) (r₁ := 0) (r₂ := 0) (d₁ := 0) (d₂ := 0) (fd := f)
    (by rw [duties_dma]; exact Finset.mem_singleton_self _) (by rw [duties_dma]; exact Finset.mem_singleton_self _)
    () () (cr (wk e)) hcr (amount_send m c e) (amount_recv m (prt e c) e) (owed c (42 - (e.val + 1))) (owed_step c e) (W := W)
    (by rw [payload_send, hx])
    (by rw [payload_recv, hset]; unfold recvPay outPts; rw [org_prt, so_first e c he]
        exact Entails.of_eq (pointsTo_congr (first_landed m c (wk e) _ _ (ownOff_eq c (wk e)) f)))) $$ [Ht1 Ht2 Ho Hx HO]
  · isplitr; · iapply (inv_at m K (c, iS e)); iexact HR
    isplitr; · iapply (inv_at m K (prt e c, iR e)); iexact HR
    isplitl [Hx]; · iexact Hx
    isplitl [Ho]; · iexact Ho
    isplitl [HO]; · iexact HO
    isplitl [Ht1]; · iexact Ht1
    isplitr; · iapply (reached_at m K (c, iS e)); iexact HR
    isplitl [Ht2]; · iexact Ht2
    iapply (reached_at m K (prt e c, iR e)); iexact HR
  iintro ⟨Hc, HO⟩
  rw [wp_ret]; imodintro
  isplitl [Hc] <;> iassumption

theorem send_later (K : Dev nD × Cid → ℕ) (c : Dev nD) (e : Fin 42) (he : 6 ≤ e.val) (f : S32768x1024.Idx → Elt F .f32) (W : Waits sig Unit)
    (n : Dev nD) (hn : n = prt e c) {hsc : (arrSeg c (prev e)).view.ref.isScScratch = false}
    {hsrc : (arrSeg c (prev e)).view.WordExact} {hdst : (arrSeg c (prev e)).view.WordExact}
    {hsem : DmaTarget.Typed .hbm (.dma (rS e)) (.remote (Dev.tc n : Thread nD τ) (arrSeg c (prev e)) (.dma (sS e)) hsc)} :
    sendPre m K c e f W ⊢ wpc c (.op (.enqueueDma (arrSeg c (prev e)) (.remote (Dev.tc n : Thread nD τ) (arrSeg c (prev e)) (.dma (sS e)) hsc) (.dma (rS e)) hsrc hdst hsem) .ret)
      (sendPost c e W) := by
  subst hn
  have hset : (arrSeg c (prev e)).view.set = reg (org (prev e) c) (wk (prev e)) := oSeg_set (org (prev e) c) (wk (prev e)) _ _ (arrOff_eq c (prev e))
  have hx : (sendPay m c e : sProp 𝕄) = ((arrSeg c (prev e)).view.loc (c : Thread nD τ) ↦[(arrSeg c (prev e)).view.set]{fullShare} gath m) := by
    unfold sendPay; rw [if_neg (by omega), so_later e c he, hset, wk_prev e he]; rfl
  have ho : (outPts (prt e c) (so e c) (wk e) f : sProp 𝕄) = ((arrSeg c (prev e)).view.loc (prt e c : Thread nD τ) ↦[(arrSeg c (prev e)).view.set]{fullShare} f) := by
    rw [so_later e c he, hset, wk_prev e he]; rfl
  have hcr : (arrSeg c (prev e)).view.amount (.dma (rS e)) = cr (wk e) := by
    rw [← wk_prev e he]; rfl
  unfold sendPre
  rw [hx, ho]
  iintro ⟨#HR, Ht1, Ht2, Ho, Hx, HO⟩
  iapply (Rounds.wp_send_pointsTo 𝒱₀ ER (sched m) (c : Thread nD τ) none (κ₁ := K (c, iS e)) (κ₂ := K (prt e c, iR e))
    (c' := (prt e c : Thread nD τ)) (r₁ := 0) (r₂ := 0) (d₁ := 0) (d₂ := 0) (fd := f)
    (by rw [duties_dma]; exact Finset.mem_singleton_self _) (by rw [duties_dma]; exact Finset.mem_singleton_self _)
    () () (cr (wk e)) hcr (amount_send m c e) (amount_recv m (prt e c) e) (owed c (42 - (e.val + 1))) (owed_step c e) (W := W)
    (by rw [payload_send, hx])
    (by rw [payload_recv, hset]; unfold recvPay outPts; rw [org_prt, so_later e c he, ← wk_prev e he]
        exact Entails.of_eq (pointsTo_congr (later_landed m (org (prev e) c) (wk (prev e)) _ _ (arrOff_eq c (prev e)) f)))) $$ [Ht1 Ht2 Ho Hx HO]
  · isplitr; · iapply (inv_at m K (c, iS e)); iexact HR
    isplitr; · iapply (inv_at m K (prt e c, iR e)); iexact HR
    isplitl [Hx]; · iexact Hx
    isplitl [Ho]; · iexact Ho
    isplitl [HO]; · iexact HO
    isplitl [Ht1]; · iexact Ht1
    isplitr; · iapply (reached_at m K (c, iS e)); iexact HR
    isplitl [Ht2]; · iexact Ht2
    iapply (reached_at m K (prt e c, iR e)); iexact HR
  iintro ⟨Hc, HO⟩
  rw [wp_ret]; imodintro
  isplitl [Hc] <;> iassumption

theorem send_wp (K : Dev nD × Cid → ℕ) (c : Dev nD) (e : Fin 42) (f : S32768x1024.Idx → Elt F .f32) (W : Waits sig Unit) :
    sendPre m K c e f W ⊢ wpc c (sendOp c e) (sendPost c e W) := by
  unfold sendOp
  split
  · next he => exact send_first m K c e he f W _ (Fin.ext (devTab_eq e c))
  · next he => exact send_later m K c e (by omega) f W _ (Fin.ext (devTab_eq e c))

end Cert.KernelIdealProof

end
-- ==== Proof.Loops.lean ====
module

public import proofs.«01_k».proof.Proof.Body

@[expose] public section

noncomputable section

/-! # The loops

Each loop's invariant at the copy it has reached, one round of it, and the whole loop. -/

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A proved run, used with any later postcondition. -/
theorem wpc_use {c : Dev nD} {p : Prog (EffT F) PUnit} {P : sProp 𝕄} {Q Q' : PUnit → sProp 𝕄} (h : P ⊢ wpc c p Q) :
    P ⊢ iprop((∀ a, Q a -∗ Q' a) -∗ wpc c p Q') :=
  h.trans (wp_wand frame _ Set.univ)

/-- A loop carries an invariant indexed by the copy it has reached. -/
theorem loop_wp (c : Dev nD) (R : sProp 𝕄) [BI.Persistent R] (Φ : ℕ → sProp 𝕄) (f : Fin 42 → Prog (EffT F) PUnit)
    (s : ℕ) (h : ∀ e : Fin 42, s ≤ e.val → iprop(R ∗ Φ e.val) ⊢ wpc c (f e) fun _ => Φ (e.val + 1)) :
    ∀ n, n + s ≤ 42 → iprop(R ∗ Φ (42 - n)) ⊢ wpc c (loop f n) fun _ => Φ 42
  | 0, _ => by
    show iprop(R ∗ Φ 42) ⊢ wpc c (.ret PUnit.unit) fun _ => Φ 42
    iintro ⟨-, H⟩
    rw [wpc, wp_ret]; imodintro; iexact H
  | n + 1, hn => by
    have hs := h ⟨41 - n, by omega⟩ (by dsimp only; omega)
    have ih := loop_wp c R Φ f s h n (by omega)
    rw [show 42 - n = 41 - n + 1 by omega] at ih
    rw [show 42 - (n + 1) = 41 - n by omega, loop]
    iintro ⟨#HR, H⟩
    rw [wpc, wp_bind]
    iapply (wpc_use hs) $$ [H]
    · isplitr; · iexact HR
      iexact H
    iintro %_ H
    iapply ih
    isplitr; · iexact HR
    iexact H

/-! ## Sending -/

/-- What copy `e` needs before it starts. -/
def U (c : Dev nD) (e : Fin 42) : sProp 𝕄 :=
  iprop((dutyTok ER (sendCell c e) 0 0 ∗ dutyTok ER (recvCell (prt e c) e) 0 0)
    ∗ (∃ f, outPts (prt e c) (so e c) (wk e) f) ∗ if e.val < 6 then xPts m c (wk e) else BI.emp)
/-- Its send's credit, once started. -/
def S (c : Dev nD) (e : Fin 42) : sProp 𝕄 := cred (tallyAt (sendCell c e) () (cr (wk e)))
/-- What the wait for copy `e` needs. -/
def V (c : Dev nD) (e : Fin 42) : sProp 𝕄 :=
  iprop(atPos ER (recvCell c e) 0 ∅ 0 ∗ cred (tallyAt (recvCell c e) () (cr (wk e))))
/-- A receipt's cell closed; the last hop's regions are kept. -/
def Z (c : Dev nD) (e : Fin 42) : sProp 𝕄 := semVal (recvCell c e) 0
def G (c : Dev nD) (e : Fin 42) : sProp 𝕄 := iprop(Z c e ∗ if 36 ≤ e.val then recvPay m c e else BI.emp)

def B (c : Dev nD) (t : ℕ) : sProp 𝕄 :=
  iprop(bigSep (Ge t) (U m c) ∗ bigSep (Lt t) (S c) ∗ bigSep (Ge (t - 6)) (V c) ∗ bigSep (Lt (t - 6)) (Z c)
    ∗ ∃ W, owes (c : Thread nD τ) (owed c (42 - t)) W)

theorem B_step (K : Dev nD × Cid → ℕ) (c : Dev nD) (e : Fin 42) :
    iprop((records m K ∗ levAts L lv) ∗ B m c e.val) ⊢ wpc c (stepOp c e) fun _ => B m c (e.val + 1) := by
  unfold B stepOp
  rw [bigSep_ge, bigSep_lt]
  split
  · next he =>
    have hx : (if e.val < 6 then xPts m c (wk e) else BI.emp : sProp 𝕄) = sendPay m c e := by unfold sendPay; rw [if_pos he, if_pos he]
    rw [show e.val - 6 = 0 by omega, show e.val + 1 - 6 = 0 by omega]
    iintro ⟨⟨#HR, -⟩, ⟨HU, HUs⟩, HS, HV, HZ, %W, HO⟩
    unfold U
    icases HU with ⟨⟨Ht1, Ht2⟩, ⟨%f, Ho⟩, Hx⟩
    iapply (wpc_use (send_wp m K c e f W)) $$ [Ht1 Ht2 Ho Hx HO]
    · unfold sendPre
      isplitr; · iexact HR
      isplitl [Ht1]; · iexact Ht1
      isplitl [Ht2]; · iexact Ht2
      isplitl [Ho]; · iexact Ho
      isplitl [Hx]; · iapply (Entails.of_eq hx); iexact Hx
      iexact HO
    iintro %_ ⟨Hc, HO⟩
    isplitl [HUs]; · iexact HUs
    isplitl [Hc HS]
    · isplitl [Hc]; · unfold S; iexact Hc
      iexact HS
    isplitl [HV]; · iexact HV
    isplitl [HZ]; · iexact HZ
    iexists _; iexact HO
  · next he =>
    have h6 : 6 ≤ e.val := by omega
    have hs : (sendPay m c e : sProp 𝕄) = recvPay m c (prev e) := by
      unfold sendPay recvPay; rw [if_neg he, so_later e c h6, wk_prev e h6]
    rw [show e.val - 6 = (prev e).val from rfl, show e.val + 1 - 6 = (prev e).val + 1 by simp only [prev]; omega, bigSep_ge (prev e), bigSep_lt (prev e)]
    iintro ⟨⟨#HR, #Hlev⟩, ⟨HU, HUs⟩, HS, ⟨HV, HVs⟩, HZ, %W, HO⟩
    rw [wpc, wp_bind]
    iapply (wpc_use (recv_wp m K c (prev e) (owed c (42 - e.val)) W)) $$ [HV HO]
    · isplitr; · iexact HR
      isplitl [HV]; · unfold V; iexact HV
      isplitl [HO]; · iexact HO
      iapply (mayWait_recv c e h6); iexact Hlev
    iintro %_ ⟨Hz, Hp, %W', HO⟩
    unfold U
    icases HU with ⟨⟨Ht1, Ht2⟩, ⟨%f, Ho⟩, -⟩
    iapply (wpc_use (send_wp m K c e f W')) $$ [Ht1 Ht2 Ho Hp HO]
    · unfold sendPre
      isplitr; · iexact HR
      isplitl [Ht1]; · iexact Ht1
      isplitl [Ht2]; · iexact Ht2
      isplitl [Ho]; · iexact Ho
      isplitl [Hp]; · iapply (Entails.of_eq hs.symm); iexact Hp
      iexact HO
    iintro %_ ⟨Hc, HO⟩
    isplitl [HUs]; · iexact HUs
    isplitl [Hc HS]
    · isplitl [Hc]; · unfold S; iexact Hc
      iexact HS
    isplitl [HVs]; · iexact HVs
    isplitl [Hz HZ]
    · isplitl [Hz]; · unfold Z; iexact Hz
      iexact HZ
    iexists _; iexact HO

/-! ## The last hop's receipts -/

def C (c : Dev nD) (t : ℕ) : sProp 𝕄 :=
  iprop(bigSep (Ge t) (V c) ∗ bigSep (Lt t) (G m c) ∗ ∃ W, owes (c : Thread nD τ) 0 W)

theorem C_step (K : Dev nD × Cid → ℕ) (c : Dev nD) (e : Fin 42) (he : 36 ≤ e.val) :
    iprop((records m K ∗ levAts L lv) ∗ C m c e.val) ⊢ wpc c (recvOp c e) fun _ => C m c (e.val + 1) := by
  unfold C
  rw [bigSep_ge, bigSep_lt]
  iintro ⟨⟨#HR, -⟩, ⟨HV, HVs⟩, HG, %W, HO⟩
  iapply (wpc_use (recv_wp m K c e 0 W)) $$ [HV HO]
  · isplitr; · iexact HR
    isplitl [HV]; · unfold V; iexact HV
    isplitl [HO]; · iexact HO
    rw [MayWait_zero]; iempintro
  iintro %_ ⟨Hz, Hp, HO⟩
  isplitl [HVs]; · iexact HVs
  isplitl [Hz Hp HG]
  · isplitl [Hz Hp]
    · unfold G Z; rw [if_pos he]
      isplitl [Hz] <;> iassumption
    iexact HG
  iexact HO

/-! ## The sends' waits -/

/-- What the wait for a send needs, and what it leaves. -/
def T (c : Dev nD) (e : Fin 42) : sProp 𝕄 := iprop(atPos ER (sendCell c e) 0 ∅ 0 ∗ S c e)
def H (c : Dev nD) (e : Fin 42) : sProp 𝕄 := iprop(semVal (sendCell c e) 0 ∗ sendPay m c e)
def D (c : Dev nD) (t : ℕ) : sProp 𝕄 :=
  iprop(bigSep (Ge t) (T c) ∗ bigSep (Lt t) (H m c) ∗ ∃ W, owes (c : Thread nD τ) 0 W)

theorem D_step (K : Dev nD × Cid → ℕ) (c : Dev nD) (e : Fin 42) :
    iprop((records m K ∗ levAts L lv) ∗ D m c e.val) ⊢ wpc c (sentOp c e) fun _ => D m c (e.val + 1) := by
  unfold D
  rw [bigSep_ge, bigSep_lt]
  iintro ⟨⟨#HR, -⟩, ⟨HT, HTs⟩, HH, %W, HO⟩
  iapply (wpc_use (sent_wp m K c e W)) $$ [HT HO]
  · isplitr; · iexact HR
    isplitl [HT]; · unfold T S; iexact HT
    iexact HO
  iintro %_ ⟨Hp, HO⟩
  isplitl [HTs]; · iexact HTs
  isplitl [Hp HH]
  · isplitl [Hp]; · unfold H; iexact Hp
    iexact HH
  iexact HO

/-! ## From the pieces back to the two arrays -/

omit [FloatOps F] in
theorem first_hop (Φ : Fin 6 → sProp 𝕄) : (bigSep Finset.univ fun e : Fin 42 => if e.val < 6 then Φ (wk e) else BI.emp) = bigSep Finset.univ Φ := by
  rw [← bigSep_filter Finset.univ (fun e : Fin 42 => e.val < 6) fun e => Φ (wk e),
    ← bigSep_image_of_injOn (f := wk) (fun a ha b hb h => by
      have h1 := (Finset.mem_filter.mp (Finset.mem_coe.mp ha)).2; have h2 := (Finset.mem_filter.mp (Finset.mem_coe.mp hb)).2
      have h3 := congrArg Fin.val h; simp only [wk] at h3; exact Fin.ext (by omega)) Φ,
    show (Finset.univ.filter fun e : Fin 42 => e.val < 6).image wk = Finset.univ by decide]

omit [FloatOps F] in
theorem back (c : Dev nD) :
    iprop(bigSep Finset.univ (sendPay m c) ∗ bigSep Finset.univ (fun e : Fin 42 => if 36 ≤ e.val then recvPay m c e else BI.emp))
      ⊢ iprop((bigSep Finset.univ fun w : Fin 6 => xPts m c w) ∗ bigSep Finset.univ fun e : Fin 42 => outPts c (org e c) (wk e) (gath m)) := by
  have h1 : bigSep Finset.univ (sendPay m c) = iprop((bigSep Finset.univ fun w : Fin 6 => xPts m c w)
      ∗ bigSep (Finset.univ.filter fun e : Fin 42 => ¬ 36 ≤ e.val) (recvPay m c)) := by
    rw [bigSep_filter_split Finset.univ (fun e : Fin 42 => e.val < 6), ← first_hop, bigSep_filter Finset.univ (fun e : Fin 42 => e.val < 6),
      bigSep_congr (Φ := fun e : Fin 42 => if e.val < 6 then sendPay m c e else BI.emp) (Ψ := fun e : Fin 42 => if e.val < 6 then xPts m c (wk e) else BI.emp)
        fun e _ => by unfold sendPay; split <;> rfl,
      show (Finset.univ.filter fun e : Fin 42 => ¬ 36 ≤ e.val) = (Finset.univ.filter fun e : Fin 42 => ¬ e.val < 6).image prev by decide,
      bigSep_image_of_injOn (f := prev) (fun a ha b hb h => by
        have h1 := (Finset.mem_filter.mp (Finset.mem_coe.mp ha)).2; have h2 := (Finset.mem_filter.mp (Finset.mem_coe.mp hb)).2
        have h3 := congrArg Fin.val h; simp only [prev] at h3; exact Fin.ext (by omega)) (recvPay m c),
      bigSep_congr (s := Finset.univ.filter fun e : Fin 42 => ¬ e.val < 6) (Φ := sendPay m c) (Ψ := fun e => recvPay m c (prev e)) fun e he => by
        have he := (Finset.mem_filter.mp he).2
        unfold sendPay recvPay; rw [if_neg he, so_later e c (by omega), wk_prev e (by omega)]]
    rfl
  have h2 : bigSep Finset.univ (recvPay m c) = iprop(bigSep (Finset.univ.filter fun e : Fin 42 => 36 ≤ e.val) (recvPay m c)
      ∗ bigSep (Finset.univ.filter fun e : Fin 42 => ¬ 36 ≤ e.val) (recvPay m c)) := bigSep_filter_split Finset.univ _
  rw [h1, ← bigSep_filter Finset.univ (fun e : Fin 42 => 36 ≤ e.val),
    show (fun e : Fin 42 => (outPts c (org e c) (wk e) (gath m) : sProp 𝕄)) = recvPay m c from rfl,
    h2]
  iintro ⟨⟨Hx, Ha⟩, Hb⟩
  isplitl [Hx]; · iexact Hx
  isplitl [Hb] <;> iassumption

end Cert.KernelIdealProof

end
-- ==== Proof.Sound.lean ====
module

public import proofs.«01_k».proof.Proof.Loops

@[expose] public section

noncomputable section

/-! # The whole body

The barrier, the local copy's start and end, and the body of one device from what it is given at launch to what it
leaves. -/

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

theorem signal_wp (K : Dev nD × Cid → ℕ) (c : Dev nD) (a : Fin 3) (n : Dev nD) (hn : n = nb a c) (O : CellTallies nD τ sig Unit) (W : Waits sig Unit) :
    iprop(records m K ∗ dutyTok ER (barCell (nb a c)) 0 a ∗ barPay (nb a c) a ∗ owes (c : Thread nD τ) (O + tallyAt (barCell (nb a c)) () 1) W)
      ⊢ wpc c (semSignalWord n bS 1#32) fun _ => owes (c : Thread nD τ) O W := by
  subst hn
  unfold semSignalWord
  iintro ⟨#HR, Ht, Hp, HO⟩
  iapply (Rounds.wp_signal 𝒱₀ ER (sched m) (c : Thread nD τ) none (dst := (nb a c : Thread nD τ)) (κ := K (nb a c, iB))
      (d := a) (by rw [duties_bar]; exact Finset.mem_univ _) ((amount_bar m (nb a c) a).trans (by decide)) () O rfl) $$ [HO Ht Hp]
  · isplitr; · iapply (inv_at m K (nb a c, iB)); iexact HR
    isplitl [HO]; · iexact HO
    isplitl [Ht]; · iexact Ht
    isplitl [Hp]; · rw [payload_bar]; iexact Hp
    iapply (reached_at m K (nb a c, iB)); iexact HR
  iintro HO
  rw [wp_ret]; imodintro; iexact HO

theorem barrier_wp (K : Dev nD × Cid → ℕ) (c : Dev nD) (W : Waits sig Unit) :
    iprop((records m K ∗ levAts L lv) ∗ atPos ER (barCell c) 0 ∅ 0 ∗ cred (tallyAt (barCell c) () 3) ∗ owes (c : Thread nD τ) (owed c 42) W)
      ⊢ wpc c (semWaitWord bS 3#32) fun _ => iprop(semVal (barCell c) 0
          ∗ (bigSep Finset.univ fun e => iprop(∃ f, outPts (prt e c) (so e c) (wk e) f)) ∗ ∃ W, owes (c : Thread nD τ) (owed c 42) W) := by
  unfold semWaitWord
  iintro ⟨⟨#HR, #Hlev⟩, Hat, Hc, HO⟩
  ihave #HI := (inv_at m K (c, iB)) $$ HR
  iapply (Rounds.wp_wait_rest_token 𝒱₀ ER (sched m) (c : Thread nD τ) none (κ := K (c, iB))
      (wpE_semWait_eq 𝒱₀ (c : Thread nD τ) none Set.univ) (Set.mem_univ _) () (O := owed c 42) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (sched m) (Set.mem_univ (K (c, iB))) (fun h => h) (R := 0 + 1) (duties_later m (barCell c))) $$ [Hat] with Hz
  · isplitr; · iexact HI
    iexact Hat
  rw [wp_ret]; imodintro
  isplitl [Hz]; · iexact Hz
  isplitl [Hp]; · iexact Hp
  iexists _; iexact HO

/-! ## The local copy -/

abbrev startOp (c : Dev nD) : Prog (EffT F) PUnit :=
  Prog.lift (.enqueueDma xM (.here (ownBlk c)) (.dma lS) (Memref.isWhole_whole _).wordExact (View.wordExact_bits rfl) ⟨Or.inl rfl, trivial⟩)
abbrev endOp (c : Dev nD) : Prog (EffT F) PUnit :=
  Prog.lift (.waitDma2 lS xM (ownBlk c) (Memref.isWhole_whole _).wordExact (View.wordExact_bits rfl))

theorem start_wp (K : Dev nD × Cid → ℕ) (c : Dev nD) (f : S32768x1024.Idx → Elt F .f32) :
    iprop(records m K ∗ xL m c ∗ blkPts c f ∗ dutyTok ER (locCell c) 0 0) ⊢ wpc c (startOp c) fun _ => cred (tallyAt (locCell c) () crL) := by
  have hx : (xL m c : sProp 𝕄) = (xM.view.loc (c : Thread nD τ) ↦[xM.view.set]{fullShare.left} m ((c : Thread nD τ).loc main_arg0)) := by
    unfold xL; rw [show xM.view.set = Finset.univ from View.set_whole _]
  have hb : (blkPts c f : sProp 𝕄) = ((ownBlk c).view.loc (c : Thread nD τ) ↦[(ownBlk c).view.set]{fullShare} f) := by
    unfold blkPts; rw [ownBlk_set]
  have hcr : (ownBlk c).view.amount (.dma lS) = crL := ownBlk_credit c
  have hl : ((ownBlk c).view.loc (c : Thread nD τ) ↦[(ownBlk c).view.set]{fullShare}
      (ownBlk c).view.write (Elt F) f (xM.view.read (Elt F) (m ((c : Thread nD τ).loc main_arg0))) Finset.univ : sProp 𝕄) = blkPts c (gath m) := by
    unfold blkPts; rw [ownBlk_set]; exact pointsTo_congr (local_landed m c f)
  rw [hx, hb]
  iintro ⟨#HR, Hx, Hb, Ht⟩
  iapply (Rounds.wp_copy_pointsTo 𝒱₀ ER (sched m) (c : Thread nD τ) none (κ := K (c, iL)) (r := 0) (d := 0) (fd := f)
    (by rw [duties_dma]; exact Finset.mem_singleton_self _) () crL hcr (amount_loc m c)
    (by rw [payload_loc, hl, ← hx, locPay])) $$ [Hx Hb Ht]
  · isplitr; · iapply (inv_at m K (c, iL)); iexact HR
    isplitl [Hx]; · iexact Hx
    isplitl [Hb]; · iexact Hb
    isplitl [Ht]; · iexact Ht
    iapply (reached_at m K (c, iL)); iexact HR
  iintro Hc
  rw [wp_ret]; imodintro; iexact Hc

theorem end_wp (K : Dev nD × Cid → ℕ) (c : Dev nD) (W : Waits sig Unit) :
    iprop(records m K ∗ atPos ER (locCell c) 0 ∅ 0 ∗ cred (tallyAt (locCell c) () crL) ∗ owes (c : Thread nD τ) 0 W)
      ⊢ wpc c (endOp c) (fun _ => iprop(semVal (locCell c) 0 ∗ locPay m c ∗ ∃ W, owes (c : Thread nD τ) 0 W)) := by
  rw [← ownBlk_credit c]
  iintro ⟨#HR, Hat, Hc, HO⟩
  ihave #HI := (inv_at m K (c, iL)) $$ HR
  iapply (Rounds.wp_wait_rest_token 𝒱₀ ER (sched m) (c : Thread nD τ) none (κ := K (c, iL))
      (wpE_waitDma2_eq 𝒱₀ (c : Thread nD τ) none Set.univ) (Set.mem_univ _) () (O := 0) (W := W) (R := 0) (m := 0) (T := ∅)
      (by rw [Nat.zero_add, expect_dma, amount_loc, ownBlk_credit])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_dma m (c : Thread nD τ) lS).trans (payload_loc m c))) $$ Hpay
  imod (Rounds.cell_close ER (sched m) (Set.mem_univ (K (c, iL))) (fun h => h) (R := 0 + 1) (duties_later m (locCell c))) $$ [Hat] with Hz
  · isplitr; · iexact HI
    iexact Hat
  rw [wp_ret]; imodintro
  isplitl [Hz]; · iexact Hz
  isplitl [Hp]; · iexact Hp
  iexists _; iexact HO

/-! ## The body -/

/-- The whole of a device's `x`, and of its result at `f`. -/
abbrev xAll (c : Dev nD) : sProp 𝕄 := ((c : Thread nD τ).loc main_arg0) ↦{fullShare} m ((c : Thread nD τ).loc main_arg0)
abbrev outAll (c : Dev nD) (f : S32768x1024.Idx → Elt F .f32) : sProp 𝕄 := ((c : Thread nD τ).loc main_v1) ↦{fullShare} f

/-- A device's positions at its own cells. -/
def positions (c : Dev nD) : sProp 𝕄 :=
  iprop(atPos ER (barCell c) 0 ∅ 0 ∗ atPos ER (locCell c) 0 ∅ 0 ∗ (bigSep Finset.univ fun e : Fin 42 => atPos ER (sendCell c e) 0 ∅ 0)
    ∗ bigSep Finset.univ fun e : Fin 42 => atPos ER (recvCell c e) 0 ∅ 0)
/-- The tokens of the duties it pays. -/
def payToks (c : Dev nD) : sProp 𝕄 :=
  iprop((bigSep Finset.univ fun a : Fin 3 => dutyTok ER (barCell (nb a c)) 0 a) ∗ dutyTok ER (locCell c) 0 0
    ∗ (bigSep Finset.univ fun e : Fin 42 => dutyTok ER (sendCell c e) 0 0) ∗ bigSep Finset.univ fun e : Fin 42 => dutyTok ER (recvCell (prt e c) e) 0 0)
/-- What the others owe it. -/
def credits (c : Dev nD) : sProp 𝕄 :=
  iprop(cred (tallyAt (barCell c) () 3) ∗ bigSep Finset.univ fun e : Fin 42 => cred (tallyAt (recvCell c e) () (cr (wk e))))

def bodyPre (K : Dev nD × Cid → ℕ) (c : Dev nD) : sProp 𝕄 :=
  iprop((records m K ∗ levAts L lv) ∗ positions c ∗ payToks c ∗ credits c ∗ xAll m c ∗ outAll c (m ((c : Thread nD τ).loc main_v1)))
/-- At the end: every counter zero, `x` as it was, the gathered result. -/
def bodyPost (c : Dev nD) : sProp 𝕄 :=
  iprop((semVal (barCell c) 0 ∗ semVal (locCell c) 0 ∗ (bigSep Finset.univ fun e : Fin 42 => semVal (sendCell c e) 0)
      ∗ bigSep Finset.univ fun e : Fin 42 => semVal (recvCell c e) 0)
    ∗ xAll m c ∗ outAll c (gath m))

omit [FloatOps F] in
theorem bigSep_three (Φ : Fin 3 → sProp 𝕄) : bigSep Finset.univ Φ = iprop(Φ 0 ∗ Φ 1 ∗ Φ 2) := by
  rw [show (Finset.univ : Finset (Fin 3)) = insert 0 (insert 1 {2}) by decide, bigSep_insert (by decide), bigSep_insert (by decide), bigSep_singleton]
  rfl

omit [FloatOps F] in
theorem kept (c : Dev nD) : bigSep (Lt 36) (Z c) ⊢ bigSep (Lt 36) (G m c) := by
  refine bigSep_mono fun e he => ?_
  unfold G; rw [if_neg (by have := (Finset.mem_filter.mp he).2; omega)]
  show (Z c e : sProp 𝕄) ⊢ iprop(Z c e ∗ BI.emp)
  iintro H; isplitl; · iexact H
  iempintro

set_option maxHeartbeats 800000 in
theorem canon_wp (K : Dev nD × Cid → ℕ) (c : Dev nD) (W : Waits sig Unit) :
    iprop(bodyPre m K c ∗ owes (c : Thread nD τ) (O₀ c) W)
      ⊢ wpc c (canon c) fun _ => iprop(bodyPost m c ∗ ∃ W, owes (c : Thread nD τ) 0 W) := by
  unfold bodyPre positions payToks credits canon
  rw [bigSep_three, wpc]
  simp only [wp_bind]
  iintro ⟨⟨⟨#HR, #Hlev⟩, ⟨HaB, HaL, HaS, HaR⟩, ⟨⟨Ht0, Ht1, Ht2⟩, HtL, HtS, HtR⟩, ⟨HcB, HcR⟩, Hx, Ho⟩, HO⟩
  -- the result's regions, along the three axes; `x` in two shares
  ihave Ho' := (Entails.of_eq (out_split c (m ((c : Thread nD τ).loc main_v1)))) $$ Ho
  icases Ho' with ⟨Hblk, Hregs⟩
  ihave Hregs := (Entails.of_eq ((by_axis fun e => (outPts c (org e c) (wk e) (m ((c : Thread nD τ).loc main_v1)) : sProp 𝕄)).symm.trans (bigSep_three _))) $$ Hregs
  icases Hregs with ⟨Hr0, Hr1, Hr2⟩
  ihave Hx' := (x_split m c).1 $$ Hx
  icases Hx' with ⟨HxL, Hxs⟩
  -- the barrier
  unfold O₀
  iapply (wpc_use (signal_wp m K c 0 _ (Fin.ext (by revert c; decide +kernel)) (O₁ c) W)) $$ [Ht0 Hr0 HO]
  · isplitr; · iexact HR
    isplitl [Ht0]; · iexact Ht0
    isplitl [Hr0]; · iapply (barPay_nb c 0); iexact Hr0
    iexact HO
  iintro %_ HO
  unfold O₁
  iapply (wpc_use (signal_wp m K c 1 _ (Fin.ext (by revert c; decide +kernel)) (O₂ c) W)) $$ [Ht1 Hr1 HO]
  · isplitr; · iexact HR
    isplitl [Ht1]; · iexact Ht1
    isplitl [Hr1]; · iapply (barPay_nb c 1); iexact Hr1
    iexact HO
  iintro %_ HO
  unfold O₂
  iapply (wpc_use (signal_wp m K c 2 _ (Fin.ext (by revert c; decide +kernel)) (owed c 42) W)) $$ [Ht2 Hr2 HO]
  · isplitr; · iexact HR
    isplitl [Ht2]; · iexact Ht2
    isplitl [Hr2]; · iapply (barPay_nb c 2); iexact Hr2
    iexact HO
  iintro %_ HO
  iapply (wpc_use (barrier_wp m K c W)) $$ [HaB HcB HO]
  · isplitr
    · isplitl; · iexact HR
      iexact Hlev
    isplitl [HaB]; · iexact HaB
    isplitl [HcB]; · iexact HcB
    iexact HO
  iintro %_ ⟨HzB, Hregs, HO⟩
  -- the local copy
  iapply (wpc_use (start_wp m K c (m ((c : Thread nD τ).loc main_v1)))) $$ [HxL Hblk HtL]
  · isplitr; · iexact HR
    isplitl [HxL]; · iexact HxL
    isplitl [Hblk] <;> iassumption
  iintro %_ HcL
  -- the copies
  iapply (wpc_use (loop_wp c iprop(records m K ∗ levAts L lv) (B m c) (stepOp c) 0 (fun e _ => B_step m K c e) 42 le_rfl)) $$ [HtS HtR Hregs Hxs HaR HcR HO]
  · isplitr
    · isplitl; · iexact HR
      iexact Hlev
    unfold B U V
    rw [Nat.sub_self, Ge_zero, Lt_zero, bigSep_empty, bigSep_empty, bigSep_sep', bigSep_sep', bigSep_sep', bigSep_sep', first_hop]
    isplitl [HtS HtR Hregs Hxs]
    · isplitl [HtS HtR]; · isplitl [HtS] <;> iassumption
      isplitl [Hregs] <;> iassumption
    isplitr; · iempintro
    isplitl [HaR HcR]; · isplitl [HaR] <;> iassumption
    isplitr; · iempintro
    iexact HO
  iintro %_ HB
  unfold B
  rw [Ge_last, Lt_last, bigSep_empty]
  icases HB with ⟨-, HcS, HV, HZ, HO⟩
  -- the last receipts
  iapply (wpc_use (loop_wp c iprop(records m K ∗ levAts L lv) (C m c) (recvOp c) 36 (fun e he => C_step m K c e he) 6 le_rfl)) $$ [HV HZ HO]
  · isplitr
    · isplitl; · iexact HR
      iexact Hlev
    unfold C
    isplitl [HV]; · iexact HV
    isplitl [HZ]
    · iapply (kept m c)
      iexact HZ
    iexact HO
  iintro %_ HC
  unfold C
  rw [Ge_last, Lt_last, bigSep_empty]
  icases HC with ⟨-, HG, HO⟩
  -- the sends' waits
  iapply (wpc_use (loop_wp c iprop(records m K ∗ levAts L lv) (D m c) (sentOp c) 0 (fun e _ => D_step m K c e) 42 le_rfl)) $$ [HaS HcS HO]
  · isplitr
    · isplitl; · iexact HR
      iexact Hlev
    unfold D T
    rw [Nat.sub_self, Ge_zero, Lt_zero, bigSep_empty, bigSep_sep']
    isplitl [HaS HcS]; · isplitl [HaS] <;> iassumption
    isplitr; · iempintro
    iexact HO
  iintro %_ HD
  unfold D
  rw [Ge_last, Lt_last, bigSep_empty]
  icases HD with ⟨-, HH, %W', HO⟩
  -- the local copy's end
  iapply (wpc_use (end_wp m K c W')) $$ [HaL HcL HO]
  · isplitr; · iexact HR
    isplitl [HaL]; · iexact HaL
    isplitl [HcL] <;> iassumption
  iintro %_ ⟨HzL, Hp, HO⟩
  unfold G H Z locPay bodyPost
  ihave HG := (Entails.of_eq (bigSep_sep' _ _ _)) $$ HG
  ihave HH := (Entails.of_eq (bigSep_sep' _ _ _)) $$ HH
  icases HG with ⟨HzR, Hlast⟩
  icases HH with ⟨HzS, Hsent⟩
  icases Hp with ⟨Hblk, HxL⟩
  ihave Hb := (back m c) $$ [Hsent Hlast]
  · isplitl [Hsent] <;> iassumption
  icases Hb with ⟨Hxs, Hregs⟩
  isplitr [HO]
  · isplitl [HzB HzL HzS HzR]
    · isplitl [HzB]; · iexact HzB
      isplitl [HzL]; · iexact HzL
      isplitl [HzS] <;> iassumption
    isplitl [HxL Hxs]
    · iapply (x_split m c).2
      isplitl [HxL] <;> iassumption
    iapply (Entails.of_eq (out_split c (gath m)).symm)
    isplitl [Hblk] <;> iassumption
  iexact HO

end Cert.KernelIdealProof

end
-- ==== Proof.Run.lean ====
module

public import proofs.«01_k».proof.Proof.Sound
public import Idealize.ShloMosaic.Lib.Pipeline.CollectiveSegs

@[expose] public section

noncomputable section

/-! # The launch and the run

Every cell's record made and the tokens dealt to the devices that pay with them; what a device is owed at launch; then
the run of the whole program, with what it leaves in memory. -/

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem osem_injective : Function.Injective osem := by
  rintro (_ | e | e) (_ | e' | e') h
  · rfl
  · exact absurd ((congrArg Fin.val (SemLoc.dma.inj h)).symm.trans lS_at) (sS_at e').1
  · exact absurd ((congrArg Fin.val (SemLoc.dma.inj h)).symm.trans lS_at) (rS_at e').1
  · exact absurd ((congrArg Fin.val (SemLoc.dma.inj h)).trans lS_at) (sS_at e).1
  · rw [sS_inj (SemLoc.dma.inj h)]
  · exact absurd (SemLoc.dma.inj h) (sS_ne_rS e e')
  · exact absurd ((congrArg Fin.val (SemLoc.dma.inj h)).trans lS_at) (rS_at e).1
  · exact absurd (SemLoc.dma.inj h).symm (sS_ne_rS e' e)
  · rw [rS_inj (SemLoc.dma.inj h)]

theorem csem_injective : Function.Injective csem := by
  rintro (_ | k) (_ | k') h
  · rfl
  · rcases k' with _ | e | e <;> cases h
  · rcases k with _ | e | e <;> cases h
  · rw [osem_injective h]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

theorem ownSemFacts : Pipeline.OwnSemFacts cfg0.spec osem where
  isScoped := by decide +kernel
  inj := osem_injective
  disj _ w := w.elim0

def cells : Finset (GSem nD τ sig) := Finset.univ.map ⟨kcell, kcell_injective⟩

/-- A device's own cells' duties: its barrier's three, then one for each other cell. -/
abbrev tokOf (cj : Dev nD × (Fin 3 ⊕ Kid)) : GSem nD τ sig × ℕ × Fin 3 := match cj.2 with
  | .inl a => (barCell cj.1, 0, a)
  | .inr k => (kcell (cj.1, .inr k), 0, 0)
theorem tokOf_injective : Function.Injective tokOf := by
  rintro ⟨c, j⟩ ⟨c', j'⟩ h
  rcases j with a | k <;> rcases j' with a' | k'
  · have h1 : c = c' := congrArg (fun x : GSem nD τ sig × ℕ × Fin 3 => x.1.1.1) h
    have h2 : a = a' := congrArg (fun x : GSem nD τ sig × ℕ × Fin 3 => x.2.2) h
    rw [h1, h2]
  · have h1 : kcell (c, .inl ()) = kcell (c', .inr k') := congrArg Prod.fst h
    cases kcell_injective h1
  · have h1 : kcell (c, .inr k) = kcell (c', .inl ()) := congrArg Prod.fst h
    cases kcell_injective h1
  · have h1 : kcell (c, .inr k) = kcell (c', .inr k') := congrArg Prod.fst h
    cases kcell_injective h1; rfl
def tokens : Finset (GSem nD τ sig × ℕ × Fin 3) := Finset.univ.map ⟨tokOf, tokOf_injective⟩

def u₀ : UU := (initOf (Pipeline.cells cfgs cellOf_inj) (Pipeline.launchToks cfgs cellOf_inj), initOf cells tokens)

omit [FloatOps F] in
theorem bigSep_kid (Φ : Kid → sProp 𝕄) : bigSep Finset.univ Φ
    = iprop(Φ (.inl ()) ∗ (bigSep Finset.univ fun e => Φ (.inr (.inl e))) ∗ bigSep Finset.univ fun e => Φ (.inr (.inr e))) := by
  rw [bigSep_univ_sum, bigSep_univ_of_subsingleton (), bigSep_univ_sum]; rfl
omit [FloatOps F] in
theorem bigSep_cid (Φ : Cid → sProp 𝕄) : bigSep Finset.univ Φ = iprop(Φ (.inl ()) ∗ bigSep Finset.univ fun k => Φ (.inr k)) := by
  rw [bigSep_univ_sum, bigSep_univ_of_subsingleton ()]; rfl

/-- The duty tokens of device `c`'s own cells. -/
def toks (c : Dev nD) : sProp 𝕄 :=
  iprop((bigSep Finset.univ fun a : Fin 3 => dutyTok ER (barCell c) 0 a) ∗ dutyTok ER (locCell c) 0 0
    ∗ (bigSep Finset.univ fun e : Fin 42 => dutyTok ER (sendCell c e) 0 0) ∗ bigSep Finset.univ fun e : Fin 42 => dutyTok ER (recvCell c e) 0 0)

/-- What each device is dealt, and what it makes of it with the others. -/
def dealt (c : Dev nD) : sProp 𝕄 :=
  iprop((bigSep Finset.univ fun k : Cid => roundState ER (sched m) (kcell (c, k)) 0)
    ∗ (bigSep Finset.univ fun k : Cid => iprop(atPos ER (kcell (c, k)) 0 ∅ 0 ∗ reached ER (kcell (c, k)) 0)) ∗ toks c)
def made (c : Dev nD) : sProp 𝕄 := iprop((∃ K, records m K) ∗ positions c ∗ payToks c)

omit [FloatOps F] in
theorem fund : BI.own (ER (initOf cells tokens)) ⊢ (|==> bigSep Finset.univ (dealt m) : sProp 𝕄) := by
  have hX (Φ : GSem nD τ sig → sProp 𝕄) : bigSep cells Φ = bigSep Finset.univ fun c : Dev nD => bigSep Finset.univ fun k : Cid => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum, bigSep_kid]; rfl
  iintro HX
  imod (Rounds.fund ER (sched m) cells tokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

abbrev ownSems (c : Dev nD) : sProp 𝕄 := Pipeline.ownSems0 (Ix := Unit) (Name := ℕ) (U := UU) (Lvl := ℕ) (Val := Elt F) (τ := τ) osem c

omit [FloatOps F] in
/-- The barrier's semaphore is the launch's one semaphore that is not the kernel's own. -/
theorem unscopedSems0_eq (c : Dev nD) : (unscopedSems0 c : sProp 𝕄) = semVal (barCell c) 0 := by
  unfold unscopedSems0; rw [bigSep_eq_bigSepL_of_eq [SemLoc.reg bS] (by decide +kernel) (by decide)]; rfl

omit [FloatOps F] in
theorem sems_eq (c : Dev nD) : (bigSep Finset.univ fun k : Cid => semVal (kcell (c, k)) 0 : sProp 𝕄) = iprop(unscopedSems0 c ∗ ownSems c) := by
  rw [bigSep_cid, unscopedSems0_eq]; rfl

omit [FloatOps F] in
theorem core_alloc (c : Dev nD) :
    iprop(ownSems c ∗ unscopedSems0 c ∗ dealt m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (Entails.of_eq (sems_eq (F := F) c).symm) $$ [Hos Hus]
  · isplitl [Hus] <;> iassumption
  imod (show iprop((bigSep Finset.univ fun k : Cid => semVal (kcell (c, k)) 0) ∗ bigSep Finset.univ fun k : Cid => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Tokens handed to the neighbour along each one's axis. -/
theorem around {I : Type} [Fintype I] (ax : I → Fin 3) (Φ : I → Dev nD → sProp 𝕄) :
    (bigSep Finset.univ fun c : Dev nD => bigSep Finset.univ fun i => Φ i c)
      = bigSep Finset.univ fun c : Dev nD => bigSep Finset.univ fun i => Φ i (nb (ax i) c) := by
  rw [bigSep_univ_comm fun (c : Dev nD) i => Φ i c, bigSep_univ_comm fun (c : Dev nD) i => Φ i (nb (ax i) c)]
  exact bigSep_congr fun i _ => bigSep_univ_equiv (swap (ax i)) (Φ i)

omit [FloatOps F] in
theorem toks_around : (bigSep Finset.univ fun c : Dev nD => (toks c : sProp 𝕄)) = bigSep Finset.univ fun c : Dev nD => payToks c := by
  unfold toks payToks
  simp only [bigSep_sep']
  rw [around (fun a => a) fun a c => (dutyTok ER (barCell c) 0 a : sProp 𝕄), around axis fun e c => (dutyTok ER (recvCell c e) 0 0 : sProp 𝕄)]

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (made m) := by
  rw [bigSep_sep', bigSep_sep', ← bigSep_univ_prod (fun ck : Dev nD × Cid => iprop(∃ κ : ℕ, cellInv ER (sched m) κ (kcell ck))),
    bigSep_congr (s := Finset.univ) (fun (c : Dev nD) _ => bigSep_sep' Finset.univ (fun k : Cid => (atPos ER (kcell (c, k)) 0 ∅ 0 : sProp 𝕄)) (fun k => reached ER (kcell (c, k)) 0)),
    bigSep_sep', ← bigSep_univ_prod (fun ck : Dev nD × Cid => (reached ER (kcell ck) 0 : sProp 𝕄)), toks_around,
    bigSep_congr (s := Finset.univ) (Ψ := fun c : Dev nD => (positions c : sProp 𝕄)) (fun c _ => by unfold positions; rw [bigSep_cid, bigSep_kid])]
  iintro ⟨HI, ⟨Hat, #HR⟩, Htok⟩
  ihave HK := (BI.bigSep_exists_pi Finset.univ (fun (ck : Dev nD × Cid) (κ : ℕ) => (cellInv ER (sched m) κ (kcell ck) : sProp 𝕄))) $$ HI
  icases HK with ⟨%K, #HI⟩
  iapply (bigSep_with_persistent (R := records m K) (Φ := fun c : Dev nD => iprop(positions c ∗ payToks c)) (Ψ := made m) fun c _ => by
    unfold made
    iintro ⟨#HR, H⟩
    isplitr; · iexists K; iexact HR
    iexact H)
  isplitr
  · unfold records; isplitl; · iexact HI
    iexact HR
  rw [bigSep_sep']
  isplitl [Hat] <;> iassumption

omit [FloatOps F] in
theorem glob : (bigSep Finset.univ fun c => iprop(ownSems c ∗ unscopedSems0 c ∗ dealt m c) : sProp 𝕄) ⊢ |={Set.univ}=> bigSep Finset.univ (made m) :=
  ((bigSep_mono fun c _ => core_alloc m c).trans (bigSep_fupd _ _)).trans (BI.fupd_mono (regroup m))

/-! ## What a device is owed at launch -/

theorem unit_at (d c : Dev nD) (a : Fin 3) : (tallyAt (barCell (nb a d)) () 1 : CellTallies nD τ sig Unit) (barCell c) () = if d = nb a c then 1 else 0 := by
  rw [tallyAt_apply]
  by_cases h : d = nb a c
  · subst h; rw [nb_nb, if_pos ⟨rfl, rfl⟩, if_pos rfl]
  · rw [if_neg (fun ⟨h1, _⟩ => h (by rw [bar_eq_iff.mp h1, nb_nb])), if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  have h (d : Dev nD) : O₀ d (barCell c) () = (if d = nb 2 c then 1 else 0) + (if d = nb 1 c then 1 else 0) + (if d = nb 0 c then 1 else 0) := by
    unfold O₀ O₁ O₂
    rw [Pi.add_apply, Finsupp.add_apply, Pi.add_apply, Finsupp.add_apply, Pi.add_apply, Finsupp.add_apply, owed_bar d c 42 le_rfl, unit_at, unit_at, unit_at, Nat.zero_add]
  rw [Pipeline.launchCredit_owing, Finsupp.single_eq_same, Finset.sum_congr rfl fun d _ => h d, Finset.sum_add_distrib, Finset.sum_add_distrib,
    Finset.sum_ite_eq' Finset.univ (nb 2 c) fun _ => 1, Finset.sum_ite_eq' Finset.univ (nb 1 c) fun _ => 1, Finset.sum_ite_eq' Finset.univ (nb 0 c) fun _ => 1,
    if_pos (Finset.mem_univ _), if_pos (Finset.mem_univ _), if_pos (Finset.mem_univ _)]

theorem launch_recv (c : Dev nD) (e : Fin 42) :
    tallyOn (recvCell c e) (launchCredit (Pipeline.owing O₀) 0 (recvCell c e)) = (tallyAt (recvCell c e) () (cr (wk e)) : CellTallies nD τ sig Unit) := by
  unfold tallyAt; refine congrArg _ (Finsupp.ext fun u => ?_); cases u
  have h (d : Dev nD) : O₀ d (recvCell c e) () = if d = prt e c then cr (wk e) else 0 := by
    unfold O₀ O₁ O₂
    rw [Pi.add_apply, Finsupp.add_apply, Pi.add_apply, Finsupp.add_apply, Pi.add_apply, Finsupp.add_apply, owed_recv d c e 42 le_rfl,
      tallyAt_ne_cell (recv_ne_bar _ _ _), tallyAt_ne_cell (recv_ne_bar _ _ _), tallyAt_ne_cell (recv_ne_bar _ _ _)]
    simp
  rw [Pipeline.launchCredit_owing, Finsupp.single_eq_same, Finset.sum_congr rfl fun d _ => h d, Finset.sum_ite_eq' Finset.univ (prt e c) fun _ => cr (wk e),
    if_pos (Finset.mem_univ _)]

omit [FloatOps F] in
theorem creds (c : Dev nD) : (Pipeline.launchCred O₀ c : sProp 𝕄) ⊢ credits c := by
  unfold Pipeline.launchCred credits
  rw [← launch_bar]
  refine (bigSep_subset (t := insert (SemLoc.reg bS) (Finset.univ.image fun e : Fin 42 => SemLoc.dma (rS e))) (Finset.subset_univ _)).trans ?_
  rw [bigSep_insert (fun h => by obtain ⟨e, -, he⟩ := Finset.mem_image.mp h; cases he),
    bigSep_image_of_injOn (fun a _ b _ h => rS_inj (SemLoc.dma.inj h)),
    bigSep_congr (s := Finset.univ) fun e _ => congrArg cred (launch_recv c e)]
  exact BI.Entails.refl _

/-! ## The pipeline's data and the body -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device holds before its body. -/
def Φ₀ (c : Dev nD) : sProp 𝕄 := iprop(∃ K, bodyPre m K c)

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => bodyPost m c
  q _ := fullShare
  owed t := match t with
    | ⟨0, _⟩ => O₀ c
    | ⟨_ + 1, _⟩ => 0

theorem share_eq (c : Dev nD) (w : Fin cfg0.W) : (dats m ρ 0 c).share w = fullShare := w.elim0

omit [FloatOps F] in
/-- The pipeline has no window. -/
theorem bigSep_W (Φ : Fin cfg0.W → sProp 𝕄) : bigSep Finset.univ Φ = BI.emp := by
  rw [show (Finset.univ : Finset (Fin cfg0.W)) = ∅ from Finset.eq_empty_of_forall_notMem fun w => w.elim0]; rfl

set_option maxRecDepth 65536 in
theorem body_obligation (c : Dev nD) : BodyObligation (dats (F := F) m ρ 0 c) (defs₀ (F := F)) 𝒱₀ () Set.univ := fun t => by
  rw [fin_N t, bigSep_W, bigSep_W]
  show iprop(Φ₀ m c ∗ (dats m ρ 0 c).owesAt () t₀.castSucc ∗ BI.emp)
    ⊢ wpc c (cc0_body (Memref.whole main_arg0) (Memref.isWhole_whole _) (Memref.whole main_v1) (Memref.isWhole_whole _) cc0_scratch0 cc0_scratch1 cc0_scratch2)
        fun _ => iprop(bodyPost m c ∗ (dats m ρ 0 c).owesAt () t₀.succ ∗ BI.emp)
  rw [body_eq]
  unfold Φ₀ Dat.owesAt Pipeline.owesWithin
  rw [show (dats m ρ 0 c).owed t₀.castSucc = O₀ c from rfl, show (dats m ρ 0 c).owed t₀.succ = 0 from rfl]
  iintro ⟨⟨%K, H⟩, ⟨%W, %hW, HO⟩, -⟩
  rw [wpc, wp_bind, Prog.lift, wp_deviceId, wp_ret]
  imodintro
  iapply (wpc_use (canon_wp m K c W)) $$ [H HO]
  · isplitl [H] <;> iassumption
  iintro %_ ⟨H, %W', HO⟩
  isplitl [H]; · iexact H
  isplitl [HO]
  · iexists W'
    isplitr; · ipureintro; exact fun _ _ => Or.inl trivial
    iexact HO
  iempintro

/-! ## The run -/

/-- What is read off after the run. -/
def left (c : Dev nD) : sProp 𝕄 := iprop(xAll m c ∗ outAll c (gath m) ∗ unscopedSems0 c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ made m c)
      ⊢ |={Set.univ}=> iprop(Φ₀ m c ∗ emp) := by
  rw [Pipeline.unscopedRestP_none, unscopedRest0_eq]
  unfold made Φ₀ bodyPre
  iintro ⟨⟨Hx, Ho⟩, #Hlev, Hcr, -, ⟨%K, #HR⟩, Hpos, Htok⟩
  ihave Hc := (creds (F := F) c) $$ Hcr
  imodintro
  isplitl
  · iexists K
    isplitr
    · isplitl; · iexact HR
      iexact Hlev
    isplitl [Hpos]; · iexact Hpos
    isplitl [Htok]; · iexact Htok
    isplitl [Hc]; · iexact Hc
    isplitl [Hx] <;> iassumption
  iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  iintro ⟨H, -, -⟩
  iexact H

theorem phi1_exit (c : Dev nD) :
    (dats m ρ 0 c).Φ (Fin.last cfg0.N) ⊢ iprop(left m c ∗ ownSems c ∗ Pipeline.scopedRest cfg0.spec c) := by
  rw [show (dats m ρ 0 c).Φ (Fin.last cfg0.N) = bodyPost m c from rfl, scopedRest0_eq]
  unfold left bodyPost ownSems Pipeline.ownSems0
  rw [unscopedSems0_eq, bigSep_kid]
  iintro ⟨⟨HzB, Hz⟩, Hx, Ho⟩
  isplitl [Hx Ho HzB]
  · isplitl [Hx]; · iexact Hx
    isplitl [Ho] <;> iassumption
  isplitl [Hz]; · iexact Hz
  iempintro

set_option maxRecDepth 65536 in
/-- At the compiled mesh of eight devices, for any float values, from any memory with zero counters: every weakly fair
    execution of @main terminates, and every final state has on each device `x` unchanged, the gathered result, and every
    semaphore counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v1) = gath m) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := fun c => Pipeline.cellsWaits_intro cfgs (dats m ρ) () 0 c fun w => w.elim0)
    (G := dealt m) (G' := made m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := Φ₀ m) (Y := left m) (Z := fun _ => iprop(emp))
    (hX := start_intro m ρ) (hin := phi0_intro m ρ) (hout := phi1_exit m ρ)
    (QY := fun c s => (s.mem ((c : Thread nD τ).loc main_arg0) = m ((c : Thread nD τ).loc main_arg0) ∧ s.mem ((c : Thread nD τ).loc main_v1) = gath m)
      ∧ ∀ sm : SemLoc sig, sm.isScoped .tc = false → s.sem ((c.tc : Thread nD τ), sm) = 0)
    (hY := fun c s' => by
      unfold left
      iintro ⟨⟨Hx, Ho, Hu⟩, -, HSI⟩
      icombine HSI Hx gives %hx
      icombine HSI Ho gives %ho
      imod (Pipeline.unscopedSems0_read (X := unscopedSems0 c) (c := c) fupd_intro s') $$ [Hu HSI] with ⟨%h, HSI⟩
      · isplitl [Hu] <;> iassumption
      imodintro
      isplitr
      · ipureintro; exact ⟨⟨funext fun i => hx i (Finset.mem_univ i), funext fun i => ho i (Finset.mem_univ i)⟩, h⟩
      iexact HSI)
    (hQ := fun _ h hs => ⟨fun c => (h c).2.2.1, sem_eq_zero hs fun c => (h c).2.2.2⟩)

end Cert.KernelIdealProof

end
-- ==== Proof.Whole.lean ====
module

public import proofs.«01_k».proof.Proof.Run
public import proofs.«01_k».proof.Proof.Gen.ReferenceIdeal
public import Idealize.ShloMosaic.Lib.StableHlo.Run
public import Idealize.ShloMosaic.Lib.Quiescent
public import Idealize.ShloMosaic.Lib.Layout

@[expose] public section

noncomputable section

/-! # The reference's run, and the value

The reference returns its argument: its program is a line of no operations. When each device's argument is its block of the
whole array, the gathered array is the whole array. -/

open Idealize.ShloMosaic Idealize.SL.Sem

namespace Cert.ReferenceIdealProof

open Cert.ReferenceIdeal

variable {F : FTy → Type} [FloatOps F]

/-- The reference's argument is as it was, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.ReferenceIdealProof

namespace Cert.KernelIdealProof

open Cert.KernelIdeal

variable {F : FTy → Type} [FloatOps F]

/-- Blocks of one array, gathered, are that array. -/
theorem gath_blocks (m : (ℓ : Loc nD τ sig) → Buf (Elt F) ℓ) (v : S32768x1024.Idx → Elt F .f32)
    (h : ∀ c : Dev nD, m ((c.tc : Thread nD τ).loc main_arg0) = Layout.block ⟨2, ![4096, 1024]⟩ ⟨2, ![32768, 1024]⟩ 0 8 c v) :
    gath m = v := by
  funext i
  have hi : (i 0).val < 32768 := (i 0).isLt
  have hd : (i 0).val / 4096 < 8 := by omega
  have ht : Layout.Tiles S4096x1024 S32768x1024 0 8 := by decide
  let j : S4096x1024.Idx := Shape.pair ⟨(i 0).val % 4096, Nat.mod_lt _ (by decide)⟩ (i 1)
  have hj0 : (j 0).val = (i 0).val % 4096 := rfl
  have hj1 : (j 1).val = (i 1).val := rfl
  refine (gath_at m ⟨(i 0).val / 4096, hd⟩ j i (by rw [hj0]; change _ = 4096 * ((i 0).val / 4096) + _; omega) hj1.symm).trans ?_
  refine (congrFun (h ⟨(i 0).val / 4096, hd⟩) j).trans (congrArg v ?_)
  funext a
  rcases a with ⟨_ | _ | a, ha⟩
  · refine Fin.ext (((Layout.idx_rows_val ht ⟨(i 0).val / 4096, hd⟩ j).1).trans ?_)
    change (i 0).val / 4096 * 4096 + (i 0).val % 4096 = (i 0).val; omega
  · exact Fin.ext (Layout.idx_rows_val ht ⟨(i 0).val / 4096, hd⟩ j).2
  · exact absurd ha (by change ¬ a + 2 < 2; omega)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.RunK
public import proofs.«01_k».proof.Proof.Whole
public import Idealize.ShloMosaic.Adequacy
public import Idealize.ShloMosaic.Init

@[expose] public section

noncomputable section

namespace Cert.Proof

open Idealize.ShloMosaic Idealize.SL.Sem Cert.Kernel

/-- Both programs of the kernel and the reference run, leave their arguments, and end quiescent; and every device ends with
the whole array, which is what the reference returns. -/
theorem claim : Cert.Claim :=
  ⟨Cert.Kernel.Gen.facts, Cert.KernelIdeal.Gen.facts, Cert.ReferenceIdeal.Gen.facts,
    fun m g _ => (θ_run _ _ _).mono (fun _ h => ⟨fun c => (h.1 c).1, h.2⟩) (Cert.KernelProof.run_main m g),
    fun m g _ => (θ_run _ _ _).mono (fun _ h => ⟨fun c => (h.1 c).1, h.2⟩) (Cert.KernelIdealProof.run_main m g),
    fun m g _ => Cert.ReferenceIdealProof.run_main m g,
    trivial,
    fun m g m' g' _ hm =>
      ⟨m' (((0 : Dev Cert.ReferenceIdeal.nD).tc : Thread Cert.ReferenceIdeal.nD Cert.ReferenceIdeal.τ).loc Cert.ReferenceIdeal.main_arg0),
        (θ_run _ _ _).mono (fun _ h c => ⟨((h.1 c).2).trans (Cert.KernelIdealProof.gath_blocks m _ hm), (h.1 c).1⟩)
          (Cert.KernelIdealProof.run_main m g),
        (θ_run _ _ _).mono (fun _ h => ⟨h.1 0, h.1 0⟩) (Cert.ReferenceIdealProof.run_main m' g')⟩⟩

end Cert.Proof

end
